-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_4) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4000000 : Shape := ⟨1, ![4000000]⟩
abbrev S16x4000000 : Shape := ⟨2, ![16, 4000000]⟩
abbrev S16x1 : Shape := ⟨2, ![16, 1]⟩
abbrev S_ : Shape := ⟨0, ![]⟩

class Facts : Prop where
  bcast_S_S16x4000000 : S_.BroadcastsInDim S16x4000000 (![] : Fin 0 → Fin S16x4000000.rank)

variable [Facts]

def fn {F : FTy → Type} [FloatOps F] (main_arg0 : FVec F S4000000 .f32) (main_arg1 : FVec F S16x4000000 .f32) (main_arg2 : FVec F S16x4000000 .f32) (main_arg3 : FVec F S16x1 .f32) : IVec S16x4000000 1 × IVec S16x4000000 1 :=
  let main_v0 : FVec F S16x4000000 .f32 := Host.absf main_arg1
  let main_cst : FVec F S_ .f32 := constant S_ .f32 0x7F800000#32
  let main_v1 : FVec F S16x4000000 .f32 := broadcastInDim S16x4000000 ![] bcast_S_S16x4000000 main_cst
  let main_v2 : IVec S16x4000000 1 := cmpf .olt main_v0 main_v1
  let main_v3 : FVec F S16x4000000 .f32 := Host.absf main_arg2
  let main_cst_0 : FVec F S_ .f32 := constant S_ .f32 0x7F800000#32
  let main_v4 : FVec F S16x4000000 .f32 := broadcastInDim S16x4000000 ![] bcast_S_S16x4000000 main_cst_0
  let main_v5 : IVec S16x4000000 1 := cmpf .olt main_v3 main_v4
  (main_v2, main_v5)
-- ==== Kernel.lean ====
abbrev S4000000 : Shape := ⟨1, ![4000000]⟩
abbrev S16x4000000 : Shape := ⟨2, ![16, 4000000]⟩
abbrev S16x1 : Shape := ⟨2, ![16, 1]⟩
abbrev S1x1 : Shape := ⟨2, ![1, 1]⟩
abbrev S16x80000 : Shape := ⟨2, ![16, 80000]⟩
abbrev S16x16 : Shape := ⟨2, ![16, 16]⟩
abbrev S1x16 : Shape := ⟨2, ![1, 16]⟩
abbrev S2x16x80000 : Shape := ⟨3, ![2, 16, 80000]⟩
abbrev S2x16x160000 : Shape := ⟨3, ![2, 16, 160000]⟩
abbrev S2x160000 : Shape := ⟨2, ![2, 160000]⟩
abbrev S2 : Shape := ⟨1, ![2]⟩
abbrev S80000 : Shape := ⟨1, ![80000]⟩
abbrev S1x80000 : Shape := ⟨2, ![1, 80000]⟩
abbrev S16 : Shape := ⟨1, ![16]⟩
abbrev S1 : Shape := ⟨1, ![1]⟩
abbrev S_ : Shape := ⟨0, ![]⟩
abbrev S1x16x80000 : Shape := ⟨3, ![1, 16, 80000]⟩
abbrev S1x16x160000 : Shape := ⟨3, ![1, 16, 160000]⟩
abbrev S16x160000 : Shape := ⟨2, ![16, 160000]⟩
abbrev S1x160000 : Shape := ⟨2, ![1, 160000]⟩
abbrev S160000 : Shape := ⟨1, ![160000]⟩
abbrev S38400 : Shape := ⟨1, ![38400]⟩
abbrev S1x38400 : Shape := ⟨2, ![1, 38400]⟩
abbrev S6400 : Shape := ⟨1, ![6400]⟩
abbrev S1x6400 : Shape := ⟨2, ![1, 6400]⟩

abbrev nBuf : Space → Nat
  | .hbm => 7
  | .vmem => 13
  | .smem => 0
  | _ => 0

abbrev bufTy : (tb : Table) → Fin (tcTables nBuf tb) → BufTy
  | .hbm, ⟨0, _⟩ => ⟨S4000000, .f32⟩
  | .hbm, ⟨1, _⟩ => ⟨S16x4000000, .f32⟩
  | .hbm, ⟨2, _⟩ => ⟨S16x4000000, .f32⟩
  | .hbm, ⟨3, _⟩ => ⟨S16x1, .f32⟩
  | .hbm, ⟨4, _⟩ => ⟨S1x1, .f32⟩
  | .hbm, ⟨5, _⟩ => ⟨S4000000, .f32⟩
  | .hbm, ⟨6, _⟩ => ⟨S16x4000000, .fp8e4m3⟩
  | .local _ .vmem, ⟨0, _⟩ => ⟨S16x1, .f32⟩
  | .local _ .vmem, ⟨1, _⟩ => ⟨S4000000, .f32⟩
  | .local _ .vmem, ⟨2, _⟩ => ⟨S16x80000, .f32⟩
  | .local _ .vmem, ⟨3, _⟩ => ⟨S16x80000, .f32⟩
  | .local _ .vmem, ⟨4, _⟩ => ⟨S16x80000, .f32⟩
  | .local _ .vmem, ⟨5, _⟩ => ⟨S16x80000, .f32⟩
  | .local _ .vmem, ⟨6, _⟩ => ⟨S1x1, .f32⟩
  | .local _ .vmem, ⟨7, _⟩ => ⟨S16x16, .f32⟩
  | .local _ .vmem, ⟨8, _⟩ => ⟨S16x1, .f32⟩
  | .local _ .vmem, ⟨9, _⟩ => ⟨S1x16, .f32⟩
  | .local _ .vmem, ⟨10, _⟩ => ⟨S2x16x80000, .fp8e4m3⟩
  | .local _ .vmem, ⟨11, _⟩ => ⟨S2x16x160000, .fp8e4m3⟩
  | .local _ .vmem, ⟨12, _⟩ => ⟨S2x160000, .f32⟩
  | _, _ => ⟨S4000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![75], ![false]⟩

def k0_cond2 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  let c80000_i32 : BitVec 32 := 80000#32
  let v17 : BitVec 32 := Scalar.muli arg0 c80000_i32
  let v18 : Index := Scalar.indexCast v17
  ![v18.toNat]
def k0_cond3 (i : grid0.Coords) : BitVec 1 :=
  let arg0 : BitVec 32 := BitVec.ofNat 32 (i 0).val
  let c2_i32_19 : BitVec 32 := 2#32
  let v37 : BitVec 1 := Scalar.cmpi .sge arg0 c2_i32_19
  let v38 : BitVec 32 := Scalar.extui v37
  let c0_i32_20 : BitVec 32 := 0#32
  let v39 : BitVec 1 := Scalar.cmpi .ne v38 c0_i32_20
  v39

def k0_off2 (i : grid0.Coords) : Fin 1 → Nat :=
  let arg0 : BitVec 32 := BitVec.ofNat 32 (i 0).val
  let c2_i32 : BitVec 32 := 2#32
  let v36 : BitVec 32 := Scalar.remsi arg0 c2_i32
  ![v36.toNat]
def k0_off3 (i : grid0.Coords) : Fin 2 → Nat :=
  let c0_i32_30 : BitVec 32 := 0#32
  let arg0 : BitVec 32 := BitVec.ofNat 32 (i 0).val
  let c2_i32_28 : BitVec 32 := 2#32
  let v53 : BitVec 32 := Scalar.subi arg0 c2_i32_28
  let c80000_i32_29 : BitVec 32 := 80000#32
  let v54 : BitVec 32 := Scalar.muli v53 c80000_i32_29
  ![0, v54.toNat]
def k0_off4 (i : grid0.Coords) : Fin 3 → Nat :=
  let arg0 : BitVec 32 := BitVec.ofNat 32 (i 0).val
  let c2_i32 : BitVec 32 := 2#32
  let v36 : BitVec 32 := Scalar.remsi arg0 c2_i32
  let c0_i32_31 : BitVec 32 := 0#32
  let c0_i32_32 : BitVec 32 := 0#32
  ![v36.toNat, 0, 0]
def k0_off5 (i : grid0.Coords) : Fin 3 → Nat :=
  let arg0 : BitVec 32 := BitVec.ofNat 32 (i 0).val
  let c2_i32 : BitVec 32 := 2#32
  let v36 : BitVec 32 := Scalar.remsi arg0 c2_i32
  let v43 : Index := Scalar.indexCast v36
  let c0_22 : Index := 0#32
  let c0_23 : Index := 0#32
  ![v43.toNat, 0, 0]
def k0_off6 (i : grid0.Coords) : Fin 1 → Nat :=
  let arg0 : BitVec 32 := BitVec.ofNat 32 (i 0).val
  let c2_i32 : BitVec 32 := 2#32
  let v36 : BitVec 32 := Scalar.remsi arg0 c2_i32
  ![v36.toNat]
def k0_off7 (i : grid0.Coords) : Fin 2 → Nat :=
  let c0_i32_25 : BitVec 32 := 0#32
  let arg0 : BitVec 32 := BitVec.ofNat 32 (i 0).val
  let c80000_i32_24 : BitVec 32 := 80000#32
  let v47 : BitVec 32 := Scalar.muli arg0 c80000_i32_24
  ![0, v47.toNat]
def k0_off8 (i : grid0.Coords) : Fin 3 → Nat :=
  let arg0 : BitVec 32 := BitVec.ofNat 32 (i 0).val
  let c2_i32 : BitVec 32 := 2#32
  let v36 : BitVec 32 := Scalar.remsi arg0 c2_i32
  let c0_i32_26 : BitVec 32 := 0#32
  let c0_i32_27 : BitVec 32 := 0#32
  ![v36.toNat, 0, 0]
def k0_cond6 (i : grid0.Coords) : BitVec 1 :=
  let arg0 : BitVec 32 := BitVec.ofNat 32 (i 0).val
  let c50_i32_5 : BitVec 32 := 50#32
  let v12 : BitVec 1 := Scalar.cmpi .sge arg0 c50_i32_5
  let v13 : BitVec 32 := Scalar.extui v12
  let c0_i32_6 : BitVec 32 := 0#32
  let v14 : BitVec 1 := Scalar.cmpi .ne v13 c0_i32_6
  v14

def k0_cond7 (i : grid0.Coords) : BitVec 1 :=
  let arg0 : BitVec 32 := BitVec.ofNat 32 (i 0).val
  let c50_i32_7 : BitVec 32 := 50#32
  let v15 : BitVec 32 := Scalar.subi arg0 c50_i32_7
  let c1_i32 : BitVec 32 := 1#32
  let v16 : BitVec 32 := Scalar.addi v15 c1_i32
  let c25_i32 : BitVec 32 := 25#32
  let v17 : BitVec 1 := Scalar.cmpi .slt v16 c25_i32
  let v18 : BitVec 32 := Scalar.extui v17
  let c0_i32_8 : BitVec 32 := 0#32
  let v19 : BitVec 1 := Scalar.cmpi .ne v18 c0_i32_8
  v19

def k0_off9 (i : grid0.Coords) : Fin 1 → Nat :=
  let arg0 : BitVec 32 := BitVec.ofNat 32 (i 0).val
  let c50_i32_7 : BitVec 32 := 50#32
  let v15 : BitVec 32 := Scalar.subi arg0 c50_i32_7
  let c1_i32_22 : BitVec 32 := 1#32
  let v76 : BitVec 32 := Scalar.addi v15 c1_i32_22
  let c2_i32_23 : BitVec 32 := 2#32
  let v77 : BitVec 32 := Scalar.remsi v76 c2_i32_23
  ![v77.toNat]
def k0_off10 (i : grid0.Coords) : Fin 3 → Nat :=
  let arg0 : BitVec 32 := BitVec.ofNat 32 (i 0).val
  let c50_i32_7 : BitVec 32 := 50#32
  let v15 : BitVec 32 := Scalar.subi arg0 c50_i32_7
  let c1_i32_22 : BitVec 32 := 1#32
  let v76 : BitVec 32 := Scalar.addi v15 c1_i32_22
  let c2_i32_23 : BitVec 32 := 2#32
  let v77 : BitVec 32 := Scalar.remsi v76 c2_i32_23
  let c0_i32_26 : BitVec 32 := 0#32
  let c0_i32_27 : BitVec 32 := 0#32
  ![v77.toNat, 0, 0]
def k0_off11 (i : grid0.Coords) : Fin 2 → Nat :=
  let c0_i32_28 : BitVec 32 := 0#32
  let arg0 : BitVec 32 := BitVec.ofNat 32 (i 0).val
  let c50_i32_7 : BitVec 32 := 50#32
  let v15 : BitVec 32 := Scalar.subi arg0 c50_i32_7
  let c1_i32_24 : BitVec 32 := 1#32
  let v78 : BitVec 32 := Scalar.addi v15 c1_i32_24
  let c160000_i32_25 : BitVec 32 := 160000#32
  let v79 : BitVec 32 := Scalar.muli v78 c160000_i32_25
  ![0, v79.toNat]
def k0_off12 (i : grid0.Coords) : Fin 1 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  ![v20.toNat]
def k0_off13 (i : grid0.Coords) : Fin 3 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  let c0_i32_9 : BitVec 32 := 0#32
  let c0_i32_10 : BitVec 32 := 0#32
  ![v20.toNat, 0, 0]
def k0_off14 (i : grid0.Coords) : Fin 2 → Nat :=
  let c0_i32_11 : BitVec 32 := 0#32
  let arg0 : BitVec 32 := BitVec.ofNat 32 (i 0).val
  let c50_i32_7 : BitVec 32 := 50#32
  let v15 : BitVec 32 := Scalar.subi arg0 c50_i32_7
  let c160000_i32 : BitVec 32 := 160000#32
  let v21 : BitVec 32 := Scalar.muli v15 c160000_i32
  ![0, v21.toNat]
def k0_off15 (i : grid0.Coords) : Fin 3 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  let v29 : Index := Scalar.indexCast v20
  let c0_13 : Index := 0#32
  let c0_14 : Index := 0#32
  ![v29.toNat, 0, 0]
def k0_off16 (i : grid0.Coords) : Fin 1 → Nat :=
  let arg0 : BitVec 32 := BitVec.ofNat 32 (i 0).val
  let c50_i32_7 : BitVec 32 := 50#32
  let v15 : BitVec 32 := Scalar.subi arg0 c50_i32_7
  let c160000_i32_15 : BitVec 32 := 160000#32
  let v34 : BitVec 32 := Scalar.muli v15 c160000_i32_15
  let v35 : Index := Scalar.indexCast v34
  ![v35.toNat]
def k0_cond8 (i : grid0.Coords) : BitVec 1 :=
  let arg0 : BitVec 32 := BitVec.ofNat 32 (i 0).val
  let c50_i32_7 : BitVec 32 := 50#32
  let v15 : BitVec 32 := Scalar.subi arg0 c50_i32_7
  let c2_i32_17 : BitVec 32 := 2#32
  let v40 : BitVec 1 := Scalar.cmpi .sge v15 c2_i32_17
  let v41 : BitVec 32 := Scalar.extui v40
  let c0_i32_18 : BitVec 32 := 0#32
  let v42 : BitVec 1 := Scalar.cmpi .ne v41 c0_i32_18
  v42

def k0_off17 (i : grid0.Coords) : Fin 1 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  ![v20.toNat]
def k0_off18 (i : grid0.Coords) : Fin 1 → Nat :=
  let arg0 : BitVec 32 := BitVec.ofNat 32 (i 0).val
  let c50_i32_7 : BitVec 32 := 50#32
  let v15 : BitVec 32 := Scalar.subi arg0 c50_i32_7
  let c2_i32_22 : BitVec 32 := 2#32
  let v76 : BitVec 32 := Scalar.subi v15 c2_i32_22
  let c160000_i32_23 : BitVec 32 := 160000#32
  let v77 : BitVec 32 := Scalar.muli v76 c160000_i32_23
  ![v77.toNat]
def k0_off19 (i : grid0.Coords) : Fin 2 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  let c0_i32_24 : BitVec 32 := 0#32
  ![v20.toNat, 0]
def k0_off20 (i : grid0.Coords) : Fin 2 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  let v44 : Index := Scalar.indexCast v20
  let c0_19 : Index := 0#32
  ![v44.toNat, 0]
def k0_off21 (i : grid0.Coords) : Fin 2 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  let v49 : Index := Scalar.indexCast v20
  let c38400 : Index := 38400#32
  ![v49.toNat, 38400]
def k0_off22 (i : grid0.Coords) : Fin 2 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  let v54 : Index := Scalar.indexCast v20
  let c76800 : Index := 76800#32
  ![v54.toNat, 76800]
def k0_off23 (i : grid0.Coords) : Fin 2 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  let v59 : Index := Scalar.indexCast v20
  let c115200 : Index := 115200#32
  ![v59.toNat, 115200]
def k0_off24 (i : grid0.Coords) : Fin 2 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  let v64 : Index := Scalar.indexCast v20
  let c153600 : Index := 153600#32
  ![v64.toNat, 153600]
def k0_off25 (i : grid0.Coords) : Fin 1 → Nat :=
  let arg0 : BitVec 32 := BitVec.ofNat 32 (i 0).val
  let c50_i32_7 : BitVec 32 := 50#32
  let v15 : BitVec 32 := Scalar.subi arg0 c50_i32_7
  let c160000_i32_15 : BitVec 32 := 160000#32
  let v34 : BitVec 32 := Scalar.muli v15 c160000_i32_15
  ![v34.toNat]
def k0_off26 (i : grid0.Coords) : Fin 2 → Nat :=
  let arg0 : BitVec 32 := BitVec.ofNat 32 (i 0).val
  let c50_i32_7 : BitVec 32 := 50#32
  let v15 : BitVec 32 := Scalar.subi arg0 c50_i32_7
  let c2_i32 : BitVec 32 := 2#32
  let v20 : BitVec 32 := Scalar.remsi v15 c2_i32
  let c0_i32_20 : BitVec 32 := 0#32
  ![v20.toNat, 0]
def k0_cond5 (i : grid0.Coords) : BitVec 1 :=
  let arg0 : BitVec 32 := BitVec.ofNat 32 (i 0).val
  let c50_i32_3 : BitVec 32 := 50#32
  let v9 : BitVec 1 := Scalar.cmpi .eq arg0 c50_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4000000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x80000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4000000 : Shape := ⟨1, ![4000000]⟩
abbrev S16x4000000 : Shape := ⟨2, ![16, 4000000]⟩
abbrev S16x1 : Shape := ⟨2, ![16, 1]⟩
abbrev S_ : Shape := ⟨0, ![]⟩
abbrev S1x4000000 : Shape := ⟨2, ![1, 4000000]⟩
abbrev S1x1 : Shape := ⟨2, ![1, 1]⟩
abbrev S1 : Shape := ⟨1, ![1]⟩

abbrev nBuf : Space → Nat
  | .hbm => 47
  | .vmem => 0
  | .smem => 0
  | _ => 0

abbrev bufTy : (tb : Table) → Fin (tcTables nBuf tb) → BufTy
  | .hbm, ⟨0, _⟩ => ⟨S4000000, .f32⟩
  | .hbm, ⟨1, _⟩ => ⟨S16x4000000, .f32⟩
  | .hbm, ⟨2, _⟩ => ⟨S16x4000000, .f32⟩
  | .hbm, ⟨3, _⟩ => ⟨S16x1, .f32⟩
  | .hbm, ⟨4, _⟩ => ⟨S_, .f32⟩
  | .hbm, ⟨5, _⟩ => ⟨S_, .i32⟩
  | .hbm, ⟨6, _⟩ => ⟨S16x4000000, .f32⟩
  | .hbm, ⟨7, _⟩ => ⟨S16x4000000, .f32⟩
  | .hbm, ⟨8, _⟩ => ⟨S16x1, .f32⟩
  | .hbm, ⟨9, _⟩ => ⟨S_, .i32⟩
  | .hbm, ⟨10, _⟩ => ⟨S4000000, .f32⟩
  | .hbm, ⟨11, _⟩ => ⟨S_, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S1x4000000, .f32⟩
  | .hbm, ⟨16, _⟩ => ⟨S4000000, .f32⟩
  | .hbm, ⟨17, _⟩ => ⟨S_, .i32⟩
  | .hbm, ⟨18, _⟩ => ⟨S1x4000000, .f32⟩
  | .hbm, ⟨19, _⟩ => ⟨S4000000, .f32⟩
  | .hbm, ⟨20, _⟩ => ⟨S_, .i32⟩
  | .hbm, ⟨21, _⟩ => ⟨S1x1, .f32⟩
  | .hbm, ⟨22, _⟩ => ⟨S1, .f32⟩
  | .hbm, ⟨23, _⟩ => ⟨S4000000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4000000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i32⟩
  | .hbm, ⟨45, _⟩ => ⟨S_, .i32⟩
  | .hbm, ⟨46, _⟩ => ⟨S1x1, .f32⟩
  | _, _ => ⟨S4000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_while0c_c_5 : Ref sig .tc := ⟨.hbm, 12, rfl⟩
abbrev main_while0c_v2 : Ref sig .tc := ⟨.hbm, 13, rfl⟩
abbrev main_while0b_call0_c : Ref sig .tc := ⟨.hbm, 14, rfl⟩
abbrev main_while0b_call0_v0 : Ref sig .tc := ⟨.hbm, 15, rfl⟩
abbrev main_while0b_v2 : Ref sig .tc := ⟨.hbm, 16, rfl⟩
abbrev main_while0b_call1_c : Ref sig .tc := ⟨.hbm, 17, rfl⟩
abbrev main_while0b_call1_v0 : Ref sig .tc := ⟨.hbm, 18, rfl⟩
abbrev main_while0b_v3 : Ref sig .tc := ⟨.hbm, 19, rfl⟩
abbrev main_while0b_call2_c : Ref sig .tc := ⟨.hbm, 20, rfl⟩
abbrev main_while0b_call2_v0 : Ref sig .tc := ⟨.hbm, 21, rfl⟩
abbrev main_while0b_v4 : Ref sig .tc := ⟨.hbm, 22, rfl⟩
abbrev main_while0b_v5 : Ref sig .tc := ⟨.hbm, 23, rfl⟩
abbrev main_while0b_cst_5 : Ref sig .tc := ⟨.hbm, 24, rfl⟩
abbrev main_while0b_v6 : Ref sig .tc := ⟨.hbm, 25, rfl⟩
abbrev main_while0b_v7 : Ref sig .tc := ⟨.hbm, 26, rfl⟩
abbrev main_while0b_v8 : Ref sig .tc := ⟨.hbm, 27, rfl⟩
abbrev main_while0b_v9 : Ref sig .tc := ⟨.hbm, 28, rfl⟩
abbrev main_while0b_v10 : Ref sig .tc := ⟨.hbm, 29, rfl⟩
abbrev main_while0b_v11 : Ref sig .tc := ⟨.hbm, 30, rfl⟩
abbrev main_while0b_v12 : Ref sig .tc := ⟨.hbm, 31, rfl⟩
abbrev main_while0b_v13 : Ref sig .tc := ⟨.hbm, 32, rfl⟩
abbrev main_while0b_cst_6 : Ref sig .tc := ⟨.hbm, 33, rfl⟩
abbrev main_while0b_v14 : Ref sig .tc := ⟨.hbm, 34, rfl⟩
abbrev main_while0b_v15 : Ref sig .tc := ⟨.hbm, 35, rfl⟩
abbrev main_while0b_cst_7 : Ref sig .tc := ⟨.hbm, 36, rfl⟩
abbrev main_while0b_v16 : Ref sig .tc := ⟨.hbm, 37, rfl⟩
abbrev main_while0b_v17 : Ref sig .tc := ⟨.hbm, 38, rfl⟩
abbrev main_while0b_cst_8 : Ref sig .tc := ⟨.hbm, 39, rfl⟩
abbrev main_while0b_v18 : Ref sig .tc := ⟨.hbm, 40, rfl⟩
abbrev main_while0b_v19 : Ref sig .tc := ⟨.hbm, 41, rfl⟩
abbrev main_while0b_v20 : Ref sig .tc := ⟨.hbm, 42, rfl⟩
abbrev main_while0b_v21 : Ref sig .tc := ⟨.hbm, 43, rfl⟩
abbrev main_while0b_c_9 : Ref sig .tc := ⟨.hbm, 44, rfl⟩
abbrev main_while0b_v22 : Ref sig .tc := ⟨.hbm, 45, rfl⟩
abbrev main_v1 : Ref sig .tc := ⟨.hbm, 46, rfl⟩

abbrev nD : Nat := 1
abbrev τ : Topo := Topo.v7x

variable {F : FTy → Type} [FloatOps F]

abbrev main_while0_count : Scf.Loop 32 := ⟨0#32, 16#32, 1#32⟩
-- ==== Proof.KI.Names.lean ====
/-
  The names the body's proof speaks in: slots of the three VMEM rings, the blocks and regions of the two HBM results,
  the semaphore cells; and the closed forms of the body's conditions and offsets over the 75 grid points.
-/
module

public import proofs.«01_k».proof.Proof.Gen.KernelIdeal.Frame
public import proofs.«01_k».proof.Proof.Gen.KernelIdeal.Skeleton
public import Idealize.ShloMosaic.Lib.Pipeline.Routed
public import Idealize.ShloMosaic.Lib.Ring
public import Idealize.ShloMosaic.Lib.Affine
public import Idealize.ShloMosaic.Lib.Tactic

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the pipeline library's, beside the counters the body's own copies ride on. -/
abbrev UU (nD : Nat) (τ : Topo) : Type := Pipeline.UC sig nD τ
local notation "𝕄" => MT nD τ sig Unit (Elt F) ℕ (UU nD τ) ℕ
abbrev 𝒱₀ : Variants := Variants.none

/-! ## Slots, blocks, cells -/

abbrev zoM : Memref sig .tc .hbm S4000000 .f32 := Memref.whole main_v0_1
abbrev u8M : Memref sig .tc .hbm S16x4000000 .fp8e4m3 := Memref.whole main_v0_2
abbrev aM : Memref sig .tc .vmem S16x16 .f32 := Memref.whole cc0_scratch0
abbrev cM : Memref sig .tc .vmem S16x1 .f32 := Memref.whole cc0_scratch1
abbrev hM : Memref sig .tc .vmem S1x16 .f32 := Memref.whole cc0_scratch2
abbrev uqM : Memref sig .tc .vmem S2x16x80000 .fp8e4m3 := Memref.whole cc0_scratch3
abbrev rqM : Memref sig .tc .vmem S2x16x160000 .fp8e4m3 := Memref.whole cc0_scratch4
abbrev zosM : Memref sig .tc .vmem S2x160000 .f32 := Memref.whole cc0_scratch5

theorem uqs_inb (s : Fin 2) : ∀ a, (![s.val, 0, 0] : Fin 3 → Nat) a + S1x16x80000.size a ≤ S2x16x80000.size a := by
  revert s; decide
theorem rqs_inb (s : Fin 2) : ∀ a, (![s.val, 0, 0] : Fin 3 → Nat) a + S1x16x160000.size a ≤ S2x16x160000.size a := by
  revert s; decide
theorem zos_inb (s : Fin 2) : ∀ a, (![s.val, 0] : Fin 2 → Nat) a + S1x160000.size a ≤ S2x160000.size a := by
  revert s; decide
theorem sem_inb (s : Fin 2) : ∀ a, (![s.val] : Fin 1 → Nat) a + S1.size a ≤ S2.size a := by
  revert s; decide
theorem u8b_inb (b : Fin 50) : ∀ a, (![0, 80000 * b.val] : Fin 2 → Nat) a + S16x80000.size a ≤ S16x4000000.size a := by
  revert b; decide
theorem u8r_inb (b : Fin 25) : ∀ a, (![0, 160000 * b.val] : Fin 2 → Nat) a + S16x160000.size a ≤ S16x4000000.size a := by
  revert b; decide
theorem zob_inb (b : Fin 25) : ∀ a, (![160000 * b.val] : Fin 1 → Nat) a + S160000.size a ≤ S4000000.size a := by
  revert b; decide

/-- Slot `s` of the write ring of quantised columns. -/
def uqs (s : Fin 2) : Memref sig .tc .vmem S16x80000 .fp8e4m3 :=
  (uqM.slice (Rect.unit (s := S2x16x80000) ![s.val, 0, 0] S1x16x80000.size (uqs_inb s)) (fun _ => rfl)).squeeze S16x80000 squeezes_S1x16x80000_S16x80000
/-- Slot `s` of the read ring of quantised columns. -/
def rqs (s : Fin 2) : Memref sig .tc .vmem S16x160000 .fp8e4m3 :=
  (rqM.slice (Rect.unit (s := S2x16x160000) ![s.val, 0, 0] S1x16x160000.size (rqs_inb s)) (fun _ => rfl)).squeeze S16x160000 squeezes_S1x16x160000_S16x160000
/-- Slot `s` of the write ring of results. -/
def zos (s : Fin 2) : Memref sig .tc .vmem S160000 .f32 :=
  (zosM.slice (Rect.unit (s := S2x160000) ![s.val, 0] S1x160000.size (zos_inb s)) (fun _ => rfl)).squeeze S160000 squeezes_S1x160000_S160000
/-- Column block `b` of the quantised array, 80000 columns. -/
def u8b (b : Fin 50) : Memref sig .tc .hbm S16x80000 .fp8e4m3 :=
  u8M.slice (Rect.unit (s := S16x4000000) ![0, 80000 * b.val] S16x80000.size (u8b_inb b)) (fun _ => rfl)
/-- Column region `j` of the quantised array, 160000 columns. -/
def u8r (j : Fin 25) : Memref sig .tc .hbm S16x160000 .fp8e4m3 :=
  u8M.slice (Rect.unit (s := S16x4000000) ![0, 160000 * j.val] S16x160000.size (u8r_inb j)) (fun _ => rfl)
/-- Block `j` of the result vector, 160000 entries. -/
def zob (j : Fin 25) : Memref sig .tc .hbm S160000 .f32 :=
  zoM.slice (Rect.unit (s := S4000000) ![160000 * j.val] S160000.size (zob_inb j)) (fun _ => rfl)
def wS (s : Fin 2) : DmaSems sig S_ := (cc0_scratch6.slice (Rect.unit (s := S2) ![s.val] S1.size (sem_inb s))).squeeze S_ squeezes_S1_S_
def rS (s : Fin 2) : DmaSems sig S_ := (cc0_scratch7.slice (Rect.unit (s := S2) ![s.val] S1.size (sem_inb s))).squeeze S_ squeezes_S1_S_
def zS (s : Fin 2) : DmaSems sig S_ := (cc0_scratch8.slice (Rect.unit (s := S2) ![s.val] S1.size (sem_inb s))).squeeze S_ squeezes_S1_S_

abbrev sl (k : ℕ) : Fin 2 := Ring.sl 2 k
abbrev bk (k : ℕ) : Fin 50 := Ring.bk 50 k
abbrev rg (k : ℕ) : Fin 25 := Ring.bk 25 k

/-! ## The conditions over the grid -/

section Conds
variable (i : grid0.Coords)

/-- The point's number. -/
abbrev pt : ℕ := (i 0).val

abbrev cnd1 : BitVec 1 := Scalar.cmpi .ne (Scalar.extui (Scalar.cmpi .eq (BitVec.ofNat 32 (i 0).val) 0#32) : BitVec 32) 0#32
abbrev cnd4 : BitVec 1 := Scalar.cmpi .ne (Scalar.extui (Scalar.cmpi .eq (BitVec.ofNat 32 (i 0).val) 49#32) : BitVec 32) 0#32
abbrev cnd9 : BitVec 1 := Scalar.cmpi .ne (Scalar.extui (Scalar.cmpi .eq (Scalar.subi (BitVec.ofNat 32 (i 0).val) 50#32) 24#32) : BitVec 32) 0#32

theorem cnd1_iff : ∀ i : grid0.Coords, cnd1 i = 1#1 ↔ (i 0).val = 0 := by decide +kernel
theorem cnd2_iff : ∀ i : grid0.Coords, k0_cond2 i = 1#1 ↔ (i 0).val < 50 := by decide +kernel
theorem cnd3_iff : ∀ i : grid0.Coords, k0_cond3 i = 1#1 ↔ 2 ≤ (i 0).val := by decide +kernel
theorem cnd4_iff : ∀ i : grid0.Coords, cnd4 i = 1#1 ↔ (i 0).val = 49 := by decide +kernel
theorem cnd5_iff : ∀ i : grid0.Coords, k0_cond5 i = 1#1 ↔ (i 0).val = 50 := by decide +kernel
theorem cnd6_iff : ∀ i : grid0.Coords, k0_cond6 i = 1#1 ↔ 50 ≤ (i 0).val := by decide +kernel
theorem cnd7_iff : ∀ i : grid0.Coords, 50 ≤ (i 0).val → (k0_cond7 i = 1#1 ↔ (i 0).val < 74) := by decide +kernel
theorem cnd8_iff : ∀ i : grid0.Coords, 50 ≤ (i 0).val → (k0_cond8 i = 1#1 ↔ 52 ≤ (i 0).val) := by decide +kernel
theorem cnd9_iff : ∀ i : grid0.Coords, 50 ≤ (i 0).val → (cnd9 i = 1#1 ↔ (i 0).val = 74) := by decide +kernel

/-! ## The offsets of the second phase -/

theorem o3 : ∀ i : grid0.Coords, 2 ≤ (i 0).val → (i 0).val < 50 → k0_off3 i = ![0, 80000 * ((i 0).val - 2)] := by decide +kernel
theorem o9 : ∀ i : grid0.Coords, 50 ≤ (i 0).val → k0_off9 i = ![((i 0).val + 1) % 2] := by decide +kernel
theorem o10 : ∀ i : grid0.Coords, 50 ≤ (i 0).val → k0_off10 i = ![((i 0).val + 1) % 2, 0, 0] := by decide +kernel
theorem o11 : ∀ i : grid0.Coords, 50 ≤ (i 0).val → (i 0).val < 74 → k0_off11 i = ![0, 160000 * ((i 0).val - 49)] := by decide +kernel
theorem o12 : ∀ i : grid0.Coords, 50 ≤ (i 0).val → k0_off12 i = ![(i 0).val % 2] := by decide +kernel
theorem o13 : ∀ i : grid0.Coords, 50 ≤ (i 0).val → k0_off13 i = ![(i 0).val % 2, 0, 0] := by decide +kernel
theorem o14 : ∀ i : grid0.Coords, 50 ≤ (i 0).val → k0_off14 i = ![0, 160000 * ((i 0).val - 50)] := by decide +kernel
theorem o15 : ∀ i : grid0.Coords, 50 ≤ (i 0).val → k0_off15 i = ![(i 0).val % 2, 0, 0] := by decide +kernel
theorem o16 : ∀ i : grid0.Coords, 50 ≤ (i 0).val → k0_off16 i = ![160000 * ((i 0).val - 50)] := by decide +kernel
theorem o17 : ∀ i : grid0.Coords, 50 ≤ (i 0).val → k0_off17 i = ![(i 0).val % 2] := by decide +kernel
theorem o18 : ∀ i : grid0.Coords, 52 ≤ (i 0).val → k0_off18 i = ![160000 * ((i 0).val - 52)] := by decide +kernel
theorem o19 : ∀ i : grid0.Coords, 50 ≤ (i 0).val → k0_off19 i = ![(i 0).val % 2, 0] := by decide +kernel
theorem o20 : ∀ i : grid0.Coords, 50 ≤ (i 0).val → k0_off20 i = ![(i 0).val % 2, 0] := by decide +kernel
theorem o21 : ∀ i : grid0.Coords, 50 ≤ (i 0).val → k0_off21 i = ![(i 0).val % 2, 38400] := by decide +kernel
theorem o22 : ∀ i : grid0.Coords, 50 ≤ (i 0).val → k0_off22 i = ![(i 0).val % 2, 76800] := by decide +kernel
theorem o23 : ∀ i : grid0.Coords, 50 ≤ (i 0).val → k0_off23 i = ![(i 0).val % 2, 115200] := by decide +kernel
theorem o24 : ∀ i : grid0.Coords, 50 ≤ (i 0).val → k0_off24 i = ![(i 0).val % 2, 153600] := by decide +kernel
theorem o25 : ∀ i : grid0.Coords, 50 ≤ (i 0).val → k0_off25 i = ![160000 * ((i 0).val - 50)] := by decide +kernel
theorem o26 : ∀ i : grid0.Coords, 50 ≤ (i 0).val → k0_off26 i = ![(i 0).val % 2, 0] := by decide +kernel

end Conds

/-! ## The body's own slices under these names -/

section Canon

theorem uqs_congr {off : Fin 3 → Nat} {s : Fin 2} (e : off = ![s.val, 0, 0]) (hh hs) :
    (uqM.slice (Rect.unit (s := S2x16x80000) off S1x16x80000.size hh) hs).squeeze S16x80000 squeezes_S1x16x80000_S16x80000 = uqs s :=
  congrArg (fun M : Memref sig .tc .vmem S1x16x80000 .fp8e4m3 => M.squeeze S16x80000 squeezes_S1x16x80000_S16x80000) (Memref.slice_unit_congr _ e _ _ _ _)
theorem rqs_congr {off : Fin 3 → Nat} {s : Fin 2} (e : off = ![s.val, 0, 0]) (hh hs) :
    (rqM.slice (Rect.unit (s := S2x16x160000) off S1x16x160000.size hh) hs).squeeze S16x160000 squeezes_S1x16x160000_S16x160000 = rqs s :=
  congrArg (fun M : Memref sig .tc .vmem S1x16x160000 .fp8e4m3 => M.squeeze S16x160000 squeezes_S1x16x160000_S16x160000) (Memref.slice_unit_congr _ e _ _ _ _)
theorem zos_congr {off : Fin 2 → Nat} {s : Fin 2} (e : off = ![s.val, 0]) (hh hs) :
    (zosM.slice (Rect.unit (s := S2x160000) off S1x160000.size hh) hs).squeeze S160000 squeezes_S1x160000_S160000 = zos s :=
  congrArg (fun M : Memref sig .tc .vmem S1x160000 .f32 => M.squeeze S160000 squeezes_S1x160000_S160000) (Memref.slice_unit_congr _ e _ _ _ _)
theorem u8b_congr {off : Fin 2 → Nat} {b : Fin 50} (e : off = ![0, 80000 * b.val]) (hh hs) :
    u8M.slice (Rect.unit (s := S16x4000000) off S16x80000.size hh) hs = u8b b := Memref.slice_unit_congr _ e _ _ hs (fun _ => rfl)
theorem u8r_congr {off : Fin 2 → Nat} {b : Fin 25} (e : off = ![0, 160000 * b.val]) (hh hs) :
    u8M.slice (Rect.unit (s := S16x4000000) off S16x160000.size hh) hs = u8r b := Memref.slice_unit_congr _ e _ _ hs (fun _ => rfl)
theorem zob_congr {off : Fin 1 → Nat} {b : Fin 25} (e : off = ![160000 * b.val]) (hh hs) :
    zoM.slice (Rect.unit (s := S4000000) off S160000.size hh) hs = zob b := Memref.slice_unit_congr _ e _ _ hs (fun _ => rfl)
theorem wS_congr {off : Fin 1 → Nat} {s : Fin 2} (e : off = ![s.val]) (hh) :
    (cc0_scratch6.slice (Rect.unit (s := S2) off S1.size hh)).squeeze S_ squeezes_S1_S_ = wS s :=
  congrArg (fun A : DmaSems sig S1 => A.squeeze S_ squeezes_S1_S_) (SemArray.slice_unit_congr _ e _ _)
theorem rS_congr {off : Fin 1 → Nat} {s : Fin 2} (e : off = ![s.val]) (hh) :
    (cc0_scratch7.slice (Rect.unit (s := S2) off S1.size hh)).squeeze S_ squeezes_S1_S_ = rS s :=
  congrArg (fun A : DmaSems sig S1 => A.squeeze S_ squeezes_S1_S_) (SemArray.slice_unit_congr _ e _ _)
theorem zS_congr {off : Fin 1 → Nat} {s : Fin 2} (e : off = ![s.val]) (hh) :
    (cc0_scratch8.slice (Rect.unit (s := S2) off S1.size hh)).squeeze S_ squeezes_S1_S_ = zS s :=
  congrArg (fun A : DmaSems sig S1 => A.squeeze S_ squeezes_S1_S_) (SemArray.slice_unit_congr _ e _ _)

theorem slv (k : ℕ) : (sl k).val = k % 2 := rfl
theorem bkv {k : ℕ} (h : k < 50) : (bk k).val = k := Ring.bk_val h
theorem rgv {k : ℕ} (h : k < 25) : (rg k).val = k := Ring.bk_val h

variable (i : grid0.Coords)

@[sl_canon] theorem cw2 (hh) : (cc0_scratch6.slice (Rect.unit (s := S2) (k0_off2 i) S1.size hh)).squeeze S_ squeezes_S1_S_ = wS (sl (i 0).val) := wS_congr (k0_off2_eq i) _
@[sl_canon] theorem cb3 (h2 : 2 ≤ (i 0).val) (h : (i 0).val < 50) (hh hs) : u8M.slice (Rect.unit (s := S16x4000000) (k0_off3 i) S16x80000.size hh) hs = u8b (bk ((i 0).val - 2)) :=
  u8b_congr (by rw [o3 i h2 h, bkv (by omega)]) _ _
@[sl_canon] theorem cs4 (hh hs) : (uqM.slice (Rect.unit (s := S2x16x80000) (k0_off4 i) S1x16x80000.size hh) hs).squeeze S16x80000 squeezes_S1x16x80000_S16x80000 = uqs (sl (i 0).val) := uqs_congr (k0_off4_eq i) _ _
@[sl_canon] theorem cw6 (hh) : (cc0_scratch6.slice (Rect.unit (s := S2) (k0_off6 i) S1.size hh)).squeeze S_ squeezes_S1_S_ = wS (sl (i 0).val) := wS_congr (k0_off6_eq i) _
@[sl_canon] theorem cb7 (h : (i 0).val < 50) (hh hs) : u8M.slice (Rect.unit (s := S16x4000000) (k0_off7 i) S16x80000.size hh) hs = u8b (bk (i 0).val) :=
  u8b_congr (by rw [k0_off7_eq i, bkv h]) _ _
@[sl_canon] theorem cs8 (hh hs) : (uqM.slice (Rect.unit (s := S2x16x80000) (k0_off8 i) S1x16x80000.size hh) hs).squeeze S16x80000 squeezes_S1x16x80000_S16x80000 = uqs (sl (i 0).val) := uqs_congr (k0_off8_eq i) _ _

@[sl_canon] theorem cr9 (h : 50 ≤ (i 0).val) (hh) : (cc0_scratch7.slice (Rect.unit (s := S2) (k0_off9 i) S1.size hh)).squeeze S_ squeezes_S1_S_ = rS (sl ((i 0).val + 1)) := rS_congr (o9 i h) _
@[sl_canon] theorem cs10 (h : 50 ≤ (i 0).val) (hh hs) : (rqM.slice (Rect.unit (s := S2x16x160000) (k0_off10 i) S1x16x160000.size hh) hs).squeeze S16x160000 squeezes_S1x16x160000_S16x160000 = rqs (sl ((i 0).val + 1)) := rqs_congr (o10 i h) _ _
@[sl_canon] theorem cb11 (h2 : 50 ≤ (i 0).val) (h : (i 0).val < 74) (hh hs) : u8M.slice (Rect.unit (s := S16x4000000) (k0_off11 i) S16x160000.size hh) hs = u8r (rg ((i 0).val - 49)) :=
  u8r_congr (by rw [o11 i h2 h, rgv (by omega)]) _ _
@[sl_canon] theorem cr12 (h : 50 ≤ (i 0).val) (hh) : (cc0_scratch7.slice (Rect.unit (s := S2) (k0_off12 i) S1.size hh)).squeeze S_ squeezes_S1_S_ = rS (sl (i 0).val) := rS_congr (o12 i h) _
@[sl_canon] theorem cz12 (h : 50 ≤ (i 0).val) (hh) : (cc0_scratch8.slice (Rect.unit (s := S2) (k0_off12 i) S1.size hh)).squeeze S_ squeezes_S1_S_ = zS (sl (i 0).val) := zS_congr (o12 i h) _
@[sl_canon] theorem cs13 (h : 50 ≤ (i 0).val) (hh hs) : (rqM.slice (Rect.unit (s := S2x16x160000) (k0_off13 i) S1x16x160000.size hh) hs).squeeze S16x160000 squeezes_S1x16x160000_S16x160000 = rqs (sl (i 0).val) := rqs_congr (o13 i h) _ _
@[sl_canon] theorem cb14 (h : 50 ≤ (i 0).val) (hh hs) : u8M.slice (Rect.unit (s := S16x4000000) (k0_off14 i) S16x160000.size hh) hs = u8r (rg ((i 0).val - 50)) :=
  u8r_congr (by have := (i 0).isLt; have h' : (i 0).val < 75 := this; rw [o14 i h, rgv (by omega)]) _ _
@[sl_canon] theorem cz17 (h : 50 ≤ (i 0).val) (hh) : (cc0_scratch8.slice (Rect.unit (s := S2) (k0_off17 i) S1.size hh)).squeeze S_ squeezes_S1_S_ = zS (sl (i 0).val) := zS_congr (o17 i h) _
@[sl_canon] theorem cb18 (h : 52 ≤ (i 0).val) (hh hs) : zoM.slice (Rect.unit (s := S4000000) (k0_off18 i) S160000.size hh) hs = zob (rg ((i 0).val - 52)) :=
  zob_congr (by have := (i 0).isLt; have h' : (i 0).val < 75 := this; rw [o18 i h, rgv (by omega)]) _ _
@[sl_canon] theorem cs19 (h : 50 ≤ (i 0).val) (hh hs) : (zosM.slice (Rect.unit (s := S2x160000) (k0_off19 i) S1x160000.size hh) hs).squeeze S160000 squeezes_S1x160000_S160000 = zos (sl (i 0).val) := zos_congr (o19 i h) _ _
@[sl_canon] theorem cb25 (h : 50 ≤ (i 0).val) (hh hs) : zoM.slice (Rect.unit (s := S4000000) (k0_off25 i) S160000.size hh) hs = zob (rg ((i 0).val - 50)) :=
  zob_congr (by have := (i 0).isLt; have h' : (i 0).val < 75 := this; rw [o25 i h, rgv (by omega)]) _ _
@[sl_canon] theorem cs26 (h : 50 ≤ (i 0).val) (hh hs) : (zosM.slice (Rect.unit (s := S2x160000) (k0_off26 i) S1x160000.size hh) hs).squeeze S160000 squeezes_S1x160000_S160000 = zos (sl (i 0).val) := zos_congr (o26 i h) _ _

/-! The literal slices of the single points 49, 50 and 74. -/

@[sl_canon] theorem lw0 (hh) : (cc0_scratch6.slice (Rect.unit (s := S2) ![0] S1.size hh)).squeeze S_ squeezes_S1_S_ = wS 0 := wS_congr (s := 0) (by decide) _
@[sl_canon] theorem lw1 (hh) : (cc0_scratch6.slice (Rect.unit (s := S2) ![1] S1.size hh)).squeeze S_ squeezes_S1_S_ = wS 1 := wS_congr (s := 1) (by decide) _
@[sl_canon] theorem lr0 (hh) : (cc0_scratch7.slice (Rect.unit (s := S2) ![0] S1.size hh)).squeeze S_ squeezes_S1_S_ = rS 0 := rS_congr (s := 0) (by decide) _
@[sl_canon] theorem lz0 (hh) : (cc0_scratch8.slice (Rect.unit (s := S2) ![0] S1.size hh)).squeeze S_ squeezes_S1_S_ = zS 0 := zS_congr (s := 0) (by decide) _
@[sl_canon] theorem lz1 (hh) : (cc0_scratch8.slice (Rect.unit (s := S2) ![1] S1.size hh)).squeeze S_ squeezes_S1_S_ = zS 1 := zS_congr (s := 1) (by decide) _
@[sl_canon] theorem lu0 (hh hs) : (uqM.slice (Rect.unit (s := S2x16x80000) ![0, 0, 0] S1x16x80000.size hh) hs).squeeze S16x80000 squeezes_S1x16x80000_S16x80000 = uqs 0 := uqs_congr (s := 0) (by decide) _ _
@[sl_canon] theorem lu1 (hh hs) : (uqM.slice (Rect.unit (s := S2x16x80000) ![1, 0, 0] S1x16x80000.size hh) hs).squeeze S16x80000 squeezes_S1x16x80000_S16x80000 = uqs 1 := uqs_congr (s := 1) (by decide) _ _
@[sl_canon] theorem lq0 (hh hs) : (rqM.slice (Rect.unit (s := S2x16x160000) ![0, 0, 0] S1x16x160000.size hh) hs).squeeze S16x160000 squeezes_S1x16x160000_S16x160000 = rqs 0 := rqs_congr (s := 0) (by decide) _ _
@[sl_canon] theorem lzo0 (hh hs) : (zosM.slice (Rect.unit (s := S2x160000) ![0, 0] S1x160000.size hh) hs).squeeze S160000 squeezes_S1x160000_S160000 = zos 0 := zos_congr (s := 0) (by decide) _ _
@[sl_canon] theorem lzo1 (hh hs) : (zosM.slice (Rect.unit (s := S2x160000) ![1, 0] S1x160000.size hh) hs).squeeze S160000 squeezes_S1x160000_S160000 = zos 1 := zos_congr (s := 1) (by decide) _ _
@[sl_canon] theorem lb48 (hh hs) : u8M.slice (Rect.unit (s := S16x4000000) ![0, 3840000] S16x80000.size hh) hs = u8b 48 := u8b_congr (b := 48) (by decide) _ _
@[sl_canon] theorem lb49 (hh hs) : u8M.slice (Rect.unit (s := S16x4000000) ![0, 3920000] S16x80000.size hh) hs = u8b 49 := u8b_congr (b := 49) (by decide) _ _
@[sl_canon] theorem lg0 (hh hs) : u8M.slice (Rect.unit (s := S16x4000000) ![0, 0] S16x160000.size hh) hs = u8r 0 := u8r_congr (b := 0) (by decide) _ _
@[sl_canon] theorem lo24 (hh hs) : zoM.slice (Rect.unit (s := S4000000) ![3840000] S160000.size hh) hs = zob 24 := zob_congr (b := 24) (by decide) _ _
@[sl_canon] theorem lo23 (hh hs) : zoM.slice (Rect.unit (s := S4000000) ![3680000] S160000.size hh) hs = zob 23 := zob_congr (b := 23) (by decide) _ _

end Canon

end Cert.KernelIdeal.Own

end
-- ==== Proof.KI.Geo.lean ====
/-
  Element sets: the columns of the quantised array, the entries of the result, the slots of the rings; and that the
  body's loads and stores within a slot stay inside it.
-/
module

public import proofs.«01_k».proof.Proof.KI.Names

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Columns, entries, slots -/

/-- Columns `lo ≤ · < hi` of the quantised array. -/
def cols (lo hi : ℕ) : Finset S16x4000000.Idx := Finset.univ.filter fun x => lo ≤ (x 1).val ∧ (x 1).val < hi
/-- Entries `lo ≤ · < hi` of the result. -/
def ents (lo hi : ℕ) : Finset S4000000.Idx := Finset.univ.filter fun x => lo ≤ (x 0).val ∧ (x 0).val < hi

theorem mem_cols {lo hi : ℕ} {x : S16x4000000.Idx} : x ∈ cols lo hi ↔ lo ≤ (x 1).val ∧ (x 1).val < hi := by simp [cols]
theorem mem_ents {lo hi : ℕ} {x : S4000000.Idx} : x ∈ ents lo hi ↔ lo ≤ (x 0).val ∧ (x 0).val < hi := by simp [ents]

theorem u8b_set (b : Fin 50) : (u8b b).view.set = cols (80000 * b.val) (80000 * b.val + 80000) := by
  refine (View.set_slice_whole _ _).trans ?_
  ext x
  rw [Rect.mem_set_unit, mem_cols]
  have h0 : (x 0).val < 16 := (x 0).isLt
  constructor
  · intro H; exact H 1
  · intro H a; fin_cases a
    · exact ⟨Nat.zero_le _, by show (x 0).val < 0 + 16; omega⟩
    · exact H
theorem u8r_set (b : Fin 25) : (u8r b).view.set = cols (160000 * b.val) (160000 * b.val + 160000) := by
  refine (View.set_slice_whole _ _).trans ?_
  ext x
  rw [Rect.mem_set_unit, mem_cols]
  have h0 : (x 0).val < 16 := (x 0).isLt
  constructor
  · intro H; exact H 1
  · intro H a; fin_cases a
    · exact ⟨Nat.zero_le _, by show (x 0).val < 0 + 16; omega⟩
    · exact H
theorem zob_set (b : Fin 25) : (zob b).view.set = ents (160000 * b.val) (160000 * b.val + 160000) := by
  refine (View.set_slice_whole _ _).trans ?_
  ext x
  rw [Rect.mem_set_unit, mem_ents]
  constructor
  · intro H; exact H 0
  · intro H a; fin_cases a; exact H

/-- Slot `s` of the write ring, as elements. -/
abbrev UQ (s : Fin 2) : Finset S2x16x80000.Idx := (Rect.unit (s := S2x16x80000) ![s.val, 0, 0] S1x16x80000.size (uqs_inb s)).set
abbrev RQ (s : Fin 2) : Finset S2x16x160000.Idx := (Rect.unit (s := S2x16x160000) ![s.val, 0, 0] S1x16x160000.size (rqs_inb s)).set
abbrev ZS (s : Fin 2) : Finset S2x160000.Idx := (Rect.unit (s := S2x160000) ![s.val, 0] S1x160000.size (zos_inb s)).set
theorem uqs_set (s : Fin 2) : (uqs s).view.set = UQ s := (View.set_reshape _ _).trans (View.set_slice_whole _ _)
theorem rqs_set (s : Fin 2) : (rqs s).view.set = RQ s := (View.set_reshape _ _).trans (View.set_slice_whole _ _)
theorem zos_set (s : Fin 2) : (zos s).view.set = ZS s := (View.set_reshape _ _).trans (View.set_slice_whole _ _)

theorem mem_UQ (s : Fin 2) (y : S2x16x80000.Idx) : y ∈ UQ s ↔ (y 0).val = s.val := by
  rw [Rect.mem_set_unit]
  have h1 : (y 1).val < 16 := (y 1).isLt
  have h2 : (y 2).val < 80000 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 16; omega
    · show 0 ≤ (y 2).val ∧ (y 2).val < 0 + 80000; omega
theorem mem_RQ (s : Fin 2) (y : S2x16x160000.Idx) : y ∈ RQ s ↔ (y 0).val = s.val := by
  rw [Rect.mem_set_unit]
  have h1 : (y 1).val < 16 := (y 1).isLt
  have h2 : (y 2).val < 160000 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 16; omega
    · show 0 ≤ (y 2).val ∧ (y 2).val < 0 + 160000; omega
theorem mem_ZS (s : Fin 2) (y : S2x160000.Idx) : y ∈ ZS s ↔ (y 0).val = s.val := by
  rw [Rect.mem_set_unit]
  have h1 : (y 1).val < 160000 := (y 1).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 160000; omega

theorem UQ_disjoint : ∀ s s' : Fin 2, s ≠ s' → Disjoint (UQ s) (UQ s') := by
  intro s s' hne; rw [Finset.disjoint_left]; intro y hy hy'; rw [mem_UQ] at hy hy'; exact hne (Fin.ext (hy.symm.trans hy'))
theorem RQ_disjoint : ∀ s s' : Fin 2, s ≠ s' → Disjoint (RQ s) (RQ s') := by
  intro s s' hne; rw [Finset.disjoint_left]; intro y hy hy'; rw [mem_RQ] at hy hy'; exact hne (Fin.ext (hy.symm.trans hy'))
theorem ZS_disjoint : ∀ s s' : Fin 2, s ≠ s' → Disjoint (ZS s) (ZS s') := by
  intro s s' hne; rw [Finset.disjoint_left]; intro y hy hy'; rw [mem_ZS] at hy hy'; exact hne (Fin.ext (hy.symm.trans hy'))
theorem UQ_cover : (Finset.univ : Finset (Fin 2)).biUnion UQ = Finset.univ := by
  ext y; simp only [Finset.mem_biUnion, Finset.mem_univ, true_and, iff_true]; exact ⟨(y 0).cast (by decide), by rw [mem_UQ]; rfl⟩
theorem RQ_cover : (Finset.univ : Finset (Fin 2)).biUnion RQ = Finset.univ := by
  ext y; simp only [Finset.mem_biUnion, Finset.mem_univ, true_and, iff_true]; exact ⟨(y 0).cast (by decide), by rw [mem_RQ]; rfl⟩
theorem ZS_cover : (Finset.univ : Finset (Fin 2)).biUnion ZS = Finset.univ := by
  ext y; simp only [Finset.mem_biUnion, Finset.mem_univ, true_and, iff_true]; exact ⟨(y 0).cast (by decide), by rw [mem_ZS]; rfl⟩

/-! ## Accesses within a slot -/

section Within
variable (i : grid0.Coords)

theorem uq_in {off : Fin 3 → ℕ} (s : Fin 2) (e : off = ![s.val, 0, 0]) (hh) :
    (uqM.access (Rect.unit (s := S2x16x80000) off S1x16x80000.size hh)).set ⊆ (uqs s).view.set := by
  subst e; rw [uqs_set]; exact (View.set_slice_whole _ _).le
theorem rq_in {off : Fin 3 → ℕ} (s : Fin 2) (e : off = ![s.val, 0, 0]) (hh) :
    (rqM.access (Rect.unit (s := S2x16x160000) off S1x16x160000.size hh)).set ⊆ (rqs s).view.set := by
  subst e; rw [rqs_set]; exact (View.set_slice_whole _ _).le
theorem zs_in {off : Fin 2 → ℕ} {n : Fin 2 → ℕ} (s : Fin 2) (o : ℕ) (e : off = ![s.val, o]) (n0 : n 0 = 1) (hn : o + n 1 ≤ 160000) (hh) :
    (zosM.access (Rect.unit (s := S2x160000) off n hh)).set ⊆ (zos s).view.set := by
  subst e; rw [zos_set]
  refine (View.set_slice_whole _ _).le.trans ?_
  intro y hy
  rw [mem_ZS]
  have := (Rect.mem_set_unit.mp hy) 0
  have h : s.val ≤ (y 0).val ∧ (y 0).val < s.val + n 0 := this
  omega

end Within

end Cert.KernelIdeal.Own
end
-- ==== Proof.KI.Flow.lean ====
/-
  The sixteen-step recurrence over the Gram matrix, as one step repeated.
-/
module

public import proofs.«01_k».proof.Proof.KI.Geo

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## One step -/

theorem slCol (t : Fin 16) : S16x16.Slices ![0, t.val] S16x1 := by revert t; decide
theorem slDiag (t : Fin 16) : S16x16.Slices ![t.val, t.val] S1x1 := by revert t; decide
theorem slRow (t : Fin 16) : S16x1.Slices ![t.val, 0] S1x1 := by revert t; decide

/-- `h` of step `t`, from the base values `B` and what the earlier steps accumulated. -/
def hStep (B acc : FVec F S16x1 .f32) (t : Fin 16) : FVec F S1x1 .f32 :=
  tanh (addf (extractStridedSlice S1x1 ![t.val, 0] B (slRow t)) (extractStridedSlice S1x1 ![t.val, 0] acc (slRow t)))
/-- The accumulated column after step `t`. -/
def accStep (A : FVec F S16x16 .f32) (B acc : FVec F S16x1 .f32) (t : Fin 16) : FVec F S16x1 .f32 :=
  addf acc (mulf (extractStridedSlice S16x1 ![0, t.val] A (slCol t)) (broadcastTo S16x1 (hStep B acc t) broadcasts_S1x1_S16x1))
/-- The log-determinant after step `t`. -/
def ldStep (A : FVec F S16x16 .f32) (h ld : FVec F S1x1 .f32) (t : Fin 16) : FVec F S1x1 .f32 :=
  addf ld (log (absf (addf (broadcast S1x1 (Scalar.ofBits .f32 0x3F800000#32))
    (mulf (subf (broadcast S1x1 (Scalar.ofBits .f32 0x3F800000#32)) (mulf h h)) (extractStridedSlice S1x1 ![t.val, t.val] A (slDiag t))))))
/-- The lanes' numbers. -/
abbrev lane : IVec S1x16 32 := iota .tc S1x16 32 [1] iota_S1x16_d1_w32
/-- The row of `h` after step `t`. -/
def rowStep (h : FVec F S1x1 .f32) (row : FVec F S1x16 .f32) (t : Fin 16) : FVec F S1x16 .f32 :=
  addf row (select (cmpi .eq lane (broadcast S1x16 (BitVec.ofNat 32 t.val)))
    (broadcastTo S1x16 (shapeCast S1x1 h shapeCasts_S1x1_S1x1) broadcasts_S1x1_S1x16) (broadcast S1x16 (Scalar.ofBits .f32 0x00000000#32)))

/-! ## The steps in order -/

section Flow
variable (A : FVec F S16x16 .f32) (B : FVec F S16x1 .f32)

def accAt : (n : ℕ) → n ≤ 16 → FVec F S16x1 .f32
  | 0, _ => broadcast S16x1 (Scalar.ofBits .f32 0x00000000#32)
  | n + 1, hn => accStep A B (accAt n (Nat.le_of_succ_le hn)) ⟨n, hn⟩
/-- `h` of step `t`. -/
def hAt (t : Fin 16) : FVec F S1x1 .f32 := hStep B (accAt A B t.val (Nat.le_of_lt t.isLt)) t
def ldAt : (n : ℕ) → n ≤ 16 → FVec F S1x1 .f32
  | 0, _ => broadcast S1x1 (Scalar.ofBits .f32 0x00000000#32)
  | n + 1, hn => ldStep A (hAt A B ⟨n, hn⟩) (ldAt n (Nat.le_of_succ_le hn)) ⟨n, hn⟩
def rowAt : (n : ℕ) → n ≤ 16 → FVec F S1x16 .f32
  | 0, _ => broadcast S1x16 (Scalar.ofBits .f32 0x00000000#32)
  | n + 1, hn => rowStep (hAt A B ⟨n, hn⟩) (rowAt n (Nat.le_of_succ_le hn)) ⟨n, hn⟩

end Flow

/-! ## The kernel's stretches are these steps -/

section Stretches
variable (A : FVec F S16x16 .f32) (c b : FVec F S16x1 .f32) (B : FVec F S16x1 .f32)

theorem s_acc3 (hB : k0_pay12 c b = B) : k0_pay24 A B k0_pay13 (k0_pay17 A c b) = (accAt A B 3 (by decide)) := by subst hB; rfl
theorem s_acc5 : k0_pay30 A B (accAt A B 3 (by decide)) = (accAt A B 5 (by decide)) := rfl
theorem s_acc7 : k0_pay37 A B (accAt A B 5 (by decide)) = (accAt A B 7 (by decide)) := rfl
theorem s_acc9 : k0_pay45 A B (accAt A B 7 (by decide)) = (accAt A B 9 (by decide)) := rfl
theorem s_acc11 : k0_pay53 A B (accAt A B 9 (by decide)) = (accAt A B 11 (by decide)) := rfl
theorem s_acc13 : k0_pay59 A B (accAt A B 11 (by decide)) = (accAt A B 13 (by decide)) := rfl
theorem s_ld3 (hB : k0_pay12 c b = B) : k0_pay23 A B k0_pay13 (k0_pay16 A c b) (k0_pay17 A c b) = (ldAt A B 3 (by decide)) := by subst hB; rfl
theorem s_ld5 : k0_pay29 A B (ldAt A B 3 (by decide)) (accAt A B 3 (by decide)) = (ldAt A B 5 (by decide)) := rfl
theorem s_ld7 : k0_pay36 A B (ldAt A B 5 (by decide)) (accAt A B 5 (by decide)) = (ldAt A B 7 (by decide)) := rfl
theorem s_ld9 : k0_pay44 A B (ldAt A B 7 (by decide)) (accAt A B 7 (by decide)) = (ldAt A B 9 (by decide)) := rfl
theorem s_ld11 : k0_pay52 A B (ldAt A B 9 (by decide)) (accAt A B 9 (by decide)) = (ldAt A B 11 (by decide)) := rfl
theorem s_ld13 : k0_pay58 A B (ldAt A B 11 (by decide)) (accAt A B 11 (by decide)) = (ldAt A B 13 (by decide)) := rfl
theorem s_ld15 : k0_pay66 A B (ldAt A B 13 (by decide)) (accAt A B 13 (by decide)) (k0_pay61 B) (k0_pay62 A B (accAt A B 11 (by decide))) = (ldAt A B 15 (by decide)) := rfl
theorem s_ld16 : k0_pay3 A (ldAt A B 15 (by decide)) (hAt A B 15) = (ldAt A B 16 (by decide)) := rfl
theorem s_h2 (hB : k0_pay12 c b = B) : k0_pay22 A B k0_pay13 (k0_pay17 A c b) = (hAt A B 2) := by subst hB; rfl
theorem s_h4 : k0_pay28 A B (accAt A B 3 (by decide)) = (hAt A B 4) := rfl
theorem s_h15 : k0_pay68 A B (accAt A B 13 (by decide)) (k0_pay61 B) (k0_pay62 A B (accAt A B 11 (by decide))) = (hAt A B 15) := rfl
theorem s_row2 (hB : k0_pay12 c b = B) : k0_pay21 B k0_pay13 k0_pay14 lane (k0_pay15 c b) (k0_pay17 A c b) = (rowAt A B 2 (by decide)) := by subst hB; rfl
theorem s_row4 : k0_pay27 B lane (rowAt A B 2 (by decide)) (hAt A B 2) (accAt A B 3 (by decide)) 2#32 = (rowAt A B 4 (by decide)) := rfl
theorem s_row6 : k0_pay34 B lane (rowAt A B 4 (by decide)) (hAt A B 4) (accAt A B 5 (by decide)) (k0_pay31 lane) = (rowAt A B 6 (by decide)) := rfl
theorem s_row8 : k0_pay42 B lane (rowAt A B 6 (by decide)) (accAt A B 7 (by decide)) (k0_pay38 lane) (Scalar.ofBits .f32 0x00000000#32) (k0_pay39 A B (accAt A B 5 (by decide))) = (rowAt A B 8 (by decide)) := rfl
theorem s_row11 : k0_pay54 A B lane (rowAt A B 8 (by decide)) (accAt A B 9 (by decide)) (k0_pay46 lane) (k0_pay47 A B (accAt A B 7 (by decide))) k0_pay48 = (rowAt A B 11 (by decide)) := rfl
theorem s_row13 : k0_pay60 A B lane (accAt A B 11 (by decide)) (rowAt A B 11 (by decide)) = (rowAt A B 13 (by decide)) := rfl
theorem s_row15 : k0_pay67 A B lane (accAt A B 13 (by decide)) (rowAt A B 13 (by decide)) (k0_pay61 B) (k0_pay62 A B (accAt A B 11 (by decide))) = (rowAt A B 15 (by decide)) := rfl

/-- The row of all sixteen `h`. -/
def hRow : FVec F S1x16 .f32 := k0_pay4 lane (rowAt A B 15 (by decide)) (hAt A B 15)

end Stretches

end Cert.KernelIdeal.Own
end
-- ==== Proof.KI.Hold.lean ====
/-
  Holders of a memref's elements and of copies in flight, and what the body's loads and stores within a slot read and
  leave there.
-/
module

public import proofs.«01_k».proof.Proof.KI.Flow

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Hold
variable (c : Dev nD)

/-- A memref's elements held at the contents `f`. -/
abbrev hP {sp : Space} {s : Shape} {e : EltTy} (m : Memref sig .tc sp s e) (f : Buf (Elt F) (m.view.loc (c : Thread nD τ))) : sProp 𝕄 :=
  m.view.loc (c : Thread nD τ) ↦[m.view.set]{fullShare} f
/-- A memref's elements held at the values `X`. -/
abbrev hR {sp : Space} {s : Shape} {e : EltTy} (m : Memref sig .tc sp s e) (X : s.Idx → Elt F e) : sProp 𝕄 :=
  hP c m (m.view.rep X)
/-- A copy in flight on the cell `sm`, bringing `D` home. -/
abbrev fl (sm : DmaSems sig S_) (N : ℕ) (D : sProp 𝕄) : sProp 𝕄 :=
  Transfers.Flight countersEmb (c : Thread nD τ) (SemLoc.dma sm.sem) default N D
abbrev cellP (sm : DmaSems sig S_) : sProp 𝕄 := semVal ((c : Thread nD τ), SemLoc.dma sm.sem) 0
/-- A quantised block on its way from slot `s` to block `b`. -/
abbrev wfl (s : Fin 2) (b : Fin 50) (X : S16x80000.Idx → Elt F .fp8e4m3) : sProp 𝕄 := fl c (wS s) 80000 iprop(hR c (u8b b) X ∗ hR c (uqs s) X)
/-- A region on its way back into slot `s`. -/
abbrev gfl (s : Fin 2) (j : Fin 25) (X : S16x160000.Idx → Elt F .fp8e4m3) : sProp 𝕄 := fl c (rS s) 160000 iprop(hR c (rqs s) X ∗ hR c (u8r j) X)
/-- A block of results on its way from slot `s` to block `j`. -/
abbrev zfl (s : Fin 2) (j : Fin 25) (X : S160000.Idx → Elt F .f32) : sProp 𝕄 := fl c (zS s) 20000 iprop(hR c (zob j) X ∗ hR c (zos s) X)

/-- Elements held at contents that read `X` are held at `X`. -/
theorem toR {sp : Space} {s : Shape} {e : EltTy} (m : Memref sig .tc sp s e) (f : Buf (Elt F) (m.view.loc (c : Thread nD τ)))
    {X : s.Idx → Elt F e} (h : m.view.read (Elt F) f = X) : (hP c m f : sProp 𝕄) ⊢ hR c m X := by
  subst h; exact pointsTo_rep_entails (c : Thread nD τ) m f fullShare
theorem to2 {sp sp' : Space} {s s' : Shape} {e e' : EltTy} (m : Memref sig .tc sp s e) (m' : Memref sig .tc sp' s' e')
    (f : Buf (Elt F) (m.view.loc (c : Thread nD τ))) (f' : Buf (Elt F) (m'.view.loc (c : Thread nD τ)))
    {X : s.Idx → Elt F e} {X' : s'.Idx → Elt F e'} (h : m.view.read (Elt F) f = X) (h' : m'.view.read (Elt F) f' = X') :
    (iprop(hP c m f ∗ hP c m' f') : sProp 𝕄) ⊢ iprop(hR c m X ∗ hR c m' X') := by
  iintro ⟨H, H'⟩
  isplitl [H]
  · iapply (toR c m f h); iexact H
  · iapply (toR c m' f' h'); iexact H'
theorem flTo (sm : DmaSems sig S_) (N : ℕ) {sp sp' : Space} {s s' : Shape} {e e' : EltTy} (m : Memref sig .tc sp s e) (m' : Memref sig .tc sp' s' e')
    (f : Buf (Elt F) (m.view.loc (c : Thread nD τ))) (f' : Buf (Elt F) (m'.view.loc (c : Thread nD τ)))
    {X : s.Idx → Elt F e} {X' : s'.Idx → Elt F e'} (h : m.view.read (Elt F) f = X) (h' : m'.view.read (Elt F) f' = X') :
    (fl c sm N iprop(hP c m f ∗ hP c m' f') : sProp 𝕄) ⊢ fl c sm N iprop(hR c m X ∗ hR c m' X') :=
  Transfers.Flight_mono _ _ (to2 c m m' f f' h h')
/-- A copy in flight from `m'` to `m` brings home what its source reads. -/
theorem flNew (sm : DmaSems sig S_) (N : ℕ) {sp sp' : Space} {s : Shape} {e : EltTy} (m : Memref sig .tc sp s e) (m' : Memref sig .tc sp' s e)
    (f : Buf (Elt F) (m.view.loc (c : Thread nD τ))) (f' : Buf (Elt F) (m'.view.loc (c : Thread nD τ)))
    {X : s.Idx → Elt F e} (h' : m'.view.read (Elt F) f' = X) :
    (fl c sm N iprop(hP c m (m.view.writes (Elt F) f [⟨Rect.whole s, ReadAs.same.apply (m'.view.read (Elt F) f')⟩]) ∗ hP c m' f') : sProp 𝕄)
      ⊢ fl c sm N iprop(hR c m X ∗ hR c m' X) :=
  flTo c sm N m m' _ f' ((View.read_writes_whole _ _ _).trans h') h'
/-- The same, of a cell under another name. -/
theorem flNew' (sm : DmaSems sig S_) (q : SemLoc sig) (hq : SemLoc.dma sm.sem = q) (N : ℕ) {sp sp' : Space} {s : Shape} {e : EltTy} (m : Memref sig .tc sp s e) (m' : Memref sig .tc sp' s e)
    (f : Buf (Elt F) (m.view.loc (c : Thread nD τ))) (f' : Buf (Elt F) (m'.view.loc (c : Thread nD τ)))
    {X : s.Idx → Elt F e} (h' : m'.view.read (Elt F) f' = X) :
    (Transfers.Flight countersEmb (c : Thread nD τ) q default N iprop(hP c m (m.view.writes (Elt F) f [⟨Rect.whole s, ReadAs.same.apply (m'.view.read (Elt F) f')⟩]) ∗ hP c m' f') : sProp 𝕄)
      ⊢ fl c sm N iprop(hR c m X ∗ hR c m' X) := by
  subst hq; exact flNew c sm N m m' f f' h'

end Hold

/-! ## What is read and left within a slot -/

section Within
variable {α : Type}

/-- A slot's values without the slot axis. -/
def sq80 (P : S1x16x80000.Idx → α) : S16x80000.Idx → α := fun x => P (Shape.reshapeEquiv (Shape.Squeezes.numel_eq squeezes_S1x16x80000_S16x80000) x)
/-- A slot's values under the slot axis. -/
def un160 (X : S16x160000.Idx → α) : S1x16x160000.Idx → α := fun y => X (Shape.reshapeEquiv (Shape.Squeezes.numel_eq squeezes_S1x16x160000_S16x160000).symm y)

theorem zs50_inb (b : Fin 50) : ∀ a, ![80000 * b.val] a + S80000.size a ≤ S4000000.size a := fun a => by
  fin_cases a; show 80000 * b.val + 80000 ≤ 4000000; omega
/-- The entries of block `b` of 80000. -/
def zs50 (Z : S4000000.Idx → α) (b : Fin 50) : S80000.Idx → α := fun y => Z ((Rect.unit (s := S4000000) ![80000 * b.val] S80000.size (zs50_inb b)).toLoadRect.idx y)
/-- The entries of block `j` of 160000. -/
def zs25 (Z : S4000000.Idx → α) (j : Fin 25) : S160000.Idx → α := fun y => Z ((Rect.unit (s := S4000000) ![160000 * j.val] S160000.size (zob_inb j)).toLoadRect.idx y)

theorem read_zs50 (v : View sig .tc .vmem S4000000 .f32) (Z : S4000000.Idx → Elt F .f32) {off : Fin 1 → ℕ} {b : Fin 50} (e : off = ![80000 * b.val]) (hh) :
    v.readAt (Elt F) (Rect.unit (s := S4000000) off S80000.size hh).toLoadRect (v.rep Z) = zs50 Z b := by
  subst e; exact View.readAt_rep _ _ _
theorem read_zs25 (v : View sig .tc .vmem S4000000 .f32) (Z : S4000000.Idx → Elt F .f32) {off : Fin 1 → ℕ} {j : Fin 25} (e : off = ![160000 * j.val]) (hh) :
    v.readAt (Elt F) (Rect.unit (s := S4000000) off S160000.size hh).toLoadRect (v.rep Z) = zs25 Z j := by
  subst e; exact View.readAt_rep _ _ _

theorem read_sq {sp : Space} {s s' : Shape} {e : EltTy} (m : Memref sig .tc sp s e) (h : s.Squeezes s') (f : m.view.ty.Contents (Elt F)) :
    (m.squeeze s' h).view.read (Elt F) f = fun x => m.view.read (Elt F) f (Shape.reshapeEquiv h.numel_eq x) := rfl
theorem emb_sq {sp : Space} {s s' : Shape} {e : EltTy} (m : Memref sig .tc sp s e) (h : s.Squeezes s') (x : s'.Idx) :
    (m.squeeze s' h).view.emb x = m.view.emb (Shape.reshapeEquiv h.numel_eq x) := rfl
theorem read_sl {sp : Space} {s : Shape} {e : EltTy} (m : Memref sig .tc sp s e) {off n : Fin s.rank → ℕ} (hh hs)
    (f : m.view.ty.Contents (Elt F)) (P : (Rect.unit (s := s) off n hh).shape.Idx → Elt F e) :
    (m.slice (Rect.unit (s := s) off n hh) hs).view.read (Elt F) ((m.access (Rect.unit (s := s) off n hh)).write (Elt F) f P Finset.univ) = P :=
  View.read_write_univ (v := m.access (Rect.unit (s := s) off n hh)) f P
theorem readAt_sl {sp : Space} {s : Shape} {e : EltTy} (m : Memref sig .tc sp s e) {off n : Fin s.rank → ℕ} (hh hs)
    (f : m.view.ty.Contents (Elt F)) :
    m.view.readAt (Elt F) (Rect.unit (s := s) off n hh).toLoadRect f = (m.slice (Rect.unit (s := s) off n hh) hs).view.read (Elt F) f := rfl

theorem uq_read {off : Fin 3 → ℕ} {s : Fin 2} (e : off = ![s.val, 0, 0]) (hh) (f : (uqM.view).ty.Contents (Elt F))
    (P : S1x16x80000.Idx → Elt F .fp8e4m3) :
    (uqs s).view.read (Elt F) ((uqM.access (Rect.unit (s := S2x16x80000) off S1x16x80000.size hh)).write (Elt F) f P Finset.univ) = sq80 P := by
  subst e
  unfold uqs
  rw [read_sq, read_sl]; unfold sq80; with_reducible rfl

theorem rq_read {off : Fin 3 → ℕ} {s : Fin 2} (e : off = ![s.val, 0, 0]) (hh) (X : S16x160000.Idx → Elt F .fp8e4m3) :
    rqM.view.readAt (Elt F) (Rect.unit (s := S2x16x160000) off S1x16x160000.size hh).toLoadRect ((rqs s).view.rep X) = un160 X := by
  subst e
  refine (readAt_sl rqM hh (fun _ => rfl) _).trans ?_
  have h := View.read_rep (rqs s).view X
  have h2 := read_sq (rqM.slice (Rect.unit (s := S2x16x160000) ![s.val, 0, 0] S1x16x160000.size hh) (fun _ => rfl)) squeezes_S1x16x160000_S16x160000
    ((rqs s).view.rep X)
  have h3 := h2.symm.trans h
  generalize (rqM.slice (Rect.unit (s := S2x16x160000) ![s.val, 0, 0] S1x16x160000.size hh) (fun _ => rfl)).view.read (Elt F) ((rqs s).view.rep X) = G at h3 ⊢
  rw [← h3]
  funext y
  unfold un160
  beta_reduce
  rw [Shape.reshapeEquiv_reshapeEquiv, Shape.reshapeEquiv_self]

/-- An index of a vector, with a row axis in front. -/
theorem row_idx {n : ℕ} (hq : (⟨1, ![n]⟩ : Shape).numel = (⟨2, ![1, n]⟩ : Shape).numel) (x : (⟨1, ![n]⟩ : Shape).Idx) :
    ((Shape.reshapeEquiv hq x) 0).val = 0 ∧ ((Shape.reshapeEquiv hq x) 1).val = (x 0).val := by
  have e := Shape.reshapeEquiv_cons_one hq x
  constructor
  · exact congrArg (fun z : (⟨2, ![1, n]⟩ : Shape).Idx => (z 0).val) e
  · exact congrArg (fun z : (⟨2, ![1, n]⟩ : Shape).Idx => (z 1).val) e

/-- Where a slot's entry lies in the buffer. -/
def zval (s : Fin 2) (x : S160000.Idx) (a : Fin 2) : ℕ := (show S2x160000.Idx from (zos s).view.emb x) a

theorem emb_sl {n : Fin 2 → ℕ} {off : Fin 2 → ℕ} (hh hs) (y : (Rect.unit (s := S2x160000) off n hh).shape.Idx) (a : Fin 2) :
    ((show S2x160000.Idx from (zosM.slice (Rect.unit (s := S2x160000) off n hh) hs).view.emb y) a).val = off a + 1 * (y a).val := rfl

theorem zemb (s : Fin 2) (x : S160000.Idx) : zval s x 0 = s.val ∧ zval s x 1 = (x 0).val := by
  have e := row_idx (Shape.Squeezes.numel_eq squeezes_S1x160000_S160000) x
  unfold zval zos
  rw [emb_sq]
  constructor
  · refine (emb_sl _ _ _ 0).trans ?_
    rw [e.1]; rfl
  · refine (emb_sl _ _ _ 1).trans ?_
    rw [e.2]; show 0 + 1 * _ = _; omega

theorem zw_hit {off : Fin 2 → ℕ} {n : Fin 2 → ℕ} {s : Fin 2} {o : ℕ} (e : off = ![s.val, o]) (hh) (f : (zosM.view).ty.Contents (Elt F)) (P)
    (x : S160000.Idx) (j : (Rect.unit (s := S2x160000) off n hh).shape.Idx) (h0 : (j 0).val = 0) (h1 : o + (j 1).val = (x 0).val) :
    (zos s).view.read (Elt F) ((zosM.access (Rect.unit (s := S2x160000) off n hh)).write (Elt F) f P Finset.univ) x = P j := by
  subst e
  have hx := zemb s x
  have em : (zos s).view.emb x = (zosM.access (Rect.unit (s := S2x160000) ![s.val, o] n hh)).emb j := by
    refine funext fun (a : Fin 2) => Fin.ext ?_
    refine Eq.trans (b := zval s x a) rfl (Eq.trans ?_ (emb_sl hh (fun _ => rfl) j a).symm)
    fin_cases a
    · refine hx.1.trans ?_
      show s.val = s.val + 1 * (j 0).val; omega
    · refine hx.2.trans ?_
      show (x 0).val = o + 1 * (j 1).val; omega
  have e1 := congrFun (View.read_write_univ (v := zosM.access (Rect.unit (s := S2x160000) ![s.val, o] n hh)) f P) j
  exact (congrArg ((zosM.access (Rect.unit (s := S2x160000) ![s.val, o] n hh)).write (Elt F) f P Finset.univ) em).trans e1
theorem zw_miss {off : Fin 2 → ℕ} {n : Fin 2 → ℕ} {s : Fin 2} {o : ℕ} (e : off = ![s.val, o]) (hh) (f : (zosM.view).ty.Contents (Elt F)) (P)
    (x : S160000.Idx) (h : (x 0).val < o ∨ o + n 1 ≤ (x 0).val) :
    (zos s).view.read (Elt F) ((zosM.access (Rect.unit (s := S2x160000) off n hh)).write (Elt F) f P Finset.univ) x = (zos s).view.read (Elt F) f x := by
  subst e
  have hx := zemb s x
  have hm : ((zos s).view.emb x) ∉ (zosM.access (Rect.unit (s := S2x160000) ![s.val, o] n hh)).setOn Finset.univ := by
    intro hm
    have hs : (zosM.access (Rect.unit (s := S2x160000) ![s.val, o] n hh)).setOn Finset.univ = (Rect.unit (s := S2x160000) ![s.val, o] n hh).set := View.set_slice_whole _ _
    have hm' := (Finset.ext_iff.mp hs _).mp hm
    have hh' : o ≤ zval s x 1 ∧ zval s x 1 < o + n 1 := (Rect.mem_set_unit.mp hm') 1
    omega
  exact View.write_of_not_mem _ _ _ hm

/-- A stretch of a vector, as the row a store takes. -/
theorem piece {n o : ℕ} (V : S160000.Idx → Elt F .f32) (hs : S160000.Slices ![o] (⟨1, ![n]⟩ : Shape)) (hc : (⟨1, ![n]⟩ : Shape).ShapeCasts ⟨2, ![1, n]⟩)
    (j : (⟨2, ![1, n]⟩ : Shape).Idx) (x : S160000.Idx) (h1 : o + (j 1).val = (x 0).val) :
    shapeCast (⟨2, ![1, n]⟩ : Shape) (extractStridedSlice (⟨1, ![n]⟩ : Shape) ![o] V hs) hc j = V x := by
  have hq : (⟨1, ![n]⟩ : Shape).numel = (⟨2, ![1, n]⟩ : Shape).numel := by rw [Shape.numel, Shape.numel]; simp [Fin.prod_univ_succ]
  obtain ⟨y, rfl⟩ := (Shape.reshapeEquiv hq).surjective j
  rw [(row_idx hq y).2] at h1
  unfold shapeCast extractStridedSlice
  dsimp only
  refine congrArg V (funext fun (a : Fin 1) => Fin.ext ?_)
  fin_cases a
  dsimp only
  rw [Shape.reshapeEquiv_reshapeEquiv, Shape.reshapeEquiv_self]
  exact h1
/-- Entry `k` of a row. -/
def rowIx (n k : ℕ) (h : k < n) : (⟨2, ![1, n]⟩ : Shape).Idx := fun a => match a with | 0 => ⟨0, Nat.one_pos⟩ | 1 => ⟨k, h⟩
theorem zos_read {s : Fin 2} {r0 r1 r2 r3 r4 : Fin 2 → ℕ} (e0 : r0 = ![s.val, 0]) (e1 : r1 = ![s.val, 38400]) (e2 : r2 = ![s.val, 76800])
    (e3 : r3 = ![s.val, 115200]) (e4 : r4 = ![s.val, 153600]) (h0 h1 h2 h3 h4) (f : (zosM.view).ty.Contents (Elt F))
    (H : Vec F S1x16 .f32) (X : Vec F S1x16x160000 .fp8e4m3) (Z : Vec F S160000 .f32) :
    (zos s).view.read (Elt F)
      ((zosM.access (Rect.unit (s := S2x160000) r4 S1x6400.size h4)).write (Elt F)
        ((zosM.access (Rect.unit (s := S2x160000) r3 S1x38400.size h3)).write (Elt F)
          ((zosM.access (Rect.unit (s := S2x160000) r2 S1x38400.size h2)).write (Elt F)
            ((zosM.access (Rect.unit (s := S2x160000) r1 S1x38400.size h1)).write (Elt F)
              ((zosM.access (Rect.unit (s := S2x160000) r0 S1x38400.size h0)).write (Elt F) f (k0_pay70 H X Z) Finset.univ)
              (k0_pay5 (k0_pay71 H X Z)) Finset.univ)
            (k0_pay6 (k0_pay69 H X Z)) Finset.univ)
          (k0_pay7 (k0_pay69 H X Z)) Finset.univ)
        (k0_pay8 (k0_pay69 H X Z)) Finset.univ) = k0_pay69 H X Z := by
  funext x
  have hx : (x 0).val < 160000 := (x 0).isLt
  have z1 : 0 < 1 := Nat.one_pos
  by_cases c4 : 153600 ≤ (x 0).val
  · refine (zw_hit e4 h4 _ _ x (rowIx 6400 ((x 0).val - 153600) (by omega)) rfl (Nat.add_sub_cancel' (by omega))).trans ?_
    exact piece (n := 6400) (o := 153600) _ slices_S160000_o153600_S6400 shapeCasts_S6400_S1x6400 (rowIx 6400 ((x 0).val - 153600) (by omega)) x (Nat.add_sub_cancel' (by omega))
  refine (zw_miss e4 h4 _ _ x (.inl (by omega))).trans ?_
  by_cases c3 : 115200 ≤ (x 0).val
  · refine (zw_hit e3 h3 _ _ x (rowIx 38400 ((x 0).val - 115200) (by omega)) rfl (Nat.add_sub_cancel' (by omega))).trans ?_
    exact piece (n := 38400) (o := 115200) _ slices_S160000_o115200_S38400 shapeCasts_S38400_S1x38400 (rowIx 38400 ((x 0).val - 115200) (by omega)) x (Nat.add_sub_cancel' (by omega))
  refine (zw_miss e3 h3 _ _ x (.inl (by omega))).trans ?_
  by_cases c2 : 76800 ≤ (x 0).val
  · refine (zw_hit e2 h2 _ _ x (rowIx 38400 ((x 0).val - 76800) (by omega)) rfl (Nat.add_sub_cancel' (by omega))).trans ?_
    exact piece (n := 38400) (o := 76800) _ slices_S160000_o76800_S38400 shapeCasts_S38400_S1x38400 (rowIx 38400 ((x 0).val - 76800) (by omega)) x (Nat.add_sub_cancel' (by omega))
  refine (zw_miss e2 h2 _ _ x (.inl (by omega))).trans ?_
  by_cases c1 : 38400 ≤ (x 0).val
  · refine (zw_hit e1 h1 _ _ x (rowIx 38400 ((x 0).val - 38400) (by omega)) rfl (Nat.add_sub_cancel' (by omega))).trans ?_
    exact piece (F := F) (n := 38400) (o := 38400) (k0_pay69 H X Z) slices_S160000_o38400_S38400 shapeCasts_S38400_S1x38400 (rowIx 38400 ((x 0).val - 38400) (by omega)) x (Nat.add_sub_cancel' (by omega))
  refine (zw_miss e1 h1 _ _ x (.inl (by omega))).trans ?_
  have hb : (x 0).val < 38400 := by omega
  refine (zw_hit (F := F) e0 h0 _ _ x (rowIx 38400 (x 0).val hb) rfl (Nat.zero_add (x 0).val)).trans ?_
  exact piece (n := 38400) (o := 0) _ slices_S160000_o0_S38400 shapeCasts_S38400_S1x38400 (rowIx 38400 (x 0).val hb) x (Nat.zero_add (x 0).val)

end Within
end Cert.KernelIdeal.Own
end
-- ==== Proof.KI.RunsA.lean ====
/-
  The body at the first fifty grid points.
-/
module

public import proofs.«01_k».proof.Proof.KI.Hold
public import Idealize.ShloMosaic.Lib.VecWindow

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
section Runs
variable (c : Dev nD) (i : grid0.Coords)
  (arg1 : Memref sig .tc .vmem S16x1 .f32) (harg1 : arg1.IsWhole)
  (arg2 : Memref sig .tc .vmem S4000000 .f32) (harg2 : arg2.IsWhole)
  (arg3 : Memref sig .tc .vmem S16x80000 .f32) (harg3 : arg3.IsWhole)
  (arg4 : Memref sig .tc .vmem S16x80000 .f32) (harg4 : arg4.IsWhole)
  (arg5 : Memref sig .tc .vmem S1x1 .f32) (harg5 : arg5.IsWhole)

abbrev body : Prog (TpuEff nD τ sig (Elt F) Λ₀ .tc) PUnit :=
  cc0_flow_fused i arg1 harg1 arg2 harg2 arg3 harg3 arg4 harg4 arg5 harg5 zoM (Memref.isWhole_whole _) u8M (Memref.isWhole_whole _)
    aM (Memref.isWhole_whole _) cM (Memref.isWhole_whole _) hM (Memref.isWhole_whole _) uqM (Memref.isWhole_whole _)
    rqM (Memref.isWhole_whole _) zosM (Memref.isWhole_whole _) cc0_scratch6 cc0_scratch7 cc0_scratch8

/-- A block of columns, quantised. -/
def qpay (U : Vec F S16x80000 .f32) : S16x80000.Idx → Elt F .fp8e4m3 := sq80 (k0_pay11 U)

end Runs

/-- What the copy of a quantised block reads. -/
theorem q_src {off : Fin 3 → ℕ} {s : Fin 2} (e : off = ![s.val, 0, 0]) (hh) (f : (uqM.view).ty.Contents (Elt F)) (m : Memref sig .tc .vmem S16x80000 .f32) (hi) (U : S16x80000.Idx → Elt F .f32) :
    (uqs s).view.read (Elt F) ((uqM.access (Rect.unit (s := S2x16x80000) off S1x16x80000.size hh)).write (Elt F) f
      (k0_pay11 (m.view.readAt (Elt F) (Rect.unit (s := S16x80000) ![0, 0] S16x80000.size hi).toLoadRect (m.view.rep U))) Finset.univ) = qpay U := by
  rw [View.readAt_rep_full]
  exact uq_read e hh f _

section Runs
variable (c : Dev nD) (i : grid0.Coords)
  (arg1 : Memref sig .tc .vmem S16x1 .f32) (harg1 : arg1.IsWhole)
  (arg2 : Memref sig .tc .vmem S4000000 .f32) (harg2 : arg2.IsWhole)
  (arg3 : Memref sig .tc .vmem S16x80000 .f32) (harg3 : arg3.IsWhole)
  (arg4 : Memref sig .tc .vmem S16x80000 .f32) (harg4 : arg4.IsWhole)
  (arg5 : Memref sig .tc .vmem S1x1 .f32) (harg5 : arg5.IsWhole)

/-- Grid point 0. -/
theorem run_0 (h50 : (i 0).val < 50) (hc1 : cnd1 i = 1#1) (hc2 : k0_cond2 i = 1#1) (hc3 : ¬ k0_cond3 i = 1#1) (hc4 : ¬ cnd4 i = 1#1) (hc5 : ¬ k0_cond5 i = 1#1) (hc6 : ¬ k0_cond6 i = 1#1)
    (Z) (U) (W) (fa) (fc) (f) (f8) (W0) (K : PUnit → sProp 𝕄) :
    iprop((hR (F := F) c arg2 Z ∗ hR c arg3 U ∗ hR c arg4 W ∗ hP c aM fa ∗ hP c cM fc ∗ hP c (uqs (sl (i 0).val)) f ∗ cellP c (wS (sl (i 0).val)) ∗ hP c (u8b (bk (i 0).val)) f8 ∗ owes (c : Thread nD τ) 0 W0)
      ∗ (iprop(hR (F := F) c arg2 Z ∗ hR c arg3 U ∗ hR c arg4 W ∗ hR c aM (k0_pay9 W U k0_pay1) ∗ hR c cM (k0_pay10 W (zs50 Z (bk (i 0).val)) k0_pay2) ∗ wfl c (sl (i 0).val) (bk (i 0).val) (qpay U) ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  iintro ⟨⟨Hz, Hu, Hw, Ha, Hc, Hf, Hs, H8, HW⟩, HK⟩
  have hu := uq_in (sl (i 0).val) (k0_off5_eq i) (k0_off5_inb i hc2)
  have hu' : (uqM.access (Rect.unit (s := S2x16x80000) (k0_off5 i) S1x16x80000.size (k0_off5_inb i hc2))).setOn Finset.univ ⊆ (uqs (sl (i 0).val)).view.set := hu
  sl_exec
  sl_step
  unfold run_0.sl.v20 run_0.sl.v26 run_0.sl.Ha_1 run_0.sl.Hc_1
  ihave Ha' := (toR c aM _ (X := k0_pay9 W U k0_pay1) ((View.read_writes_full _ _ _ _ _).trans (by rw [View.readAt_rep_full, View.readAt_rep_full, View.readCov_full]))) $$ Ha
  ihave Hc' := (toR c cM _ (X := k0_pay10 W (zs50 Z (bk (i 0).val)) k0_pay2) ((View.read_writes_full _ _ _ _ _).trans (by rw [View.readAt_rep_full, View.readCov_full, read_zs50 arg2.view Z (b := bk (i 0).val) (Gen.k0_off1_eq i |>.trans (by rw [bkv h50]))]))) $$ Hc
  unfold run_0.sl.dma15 run_0.sl.Hf_w1
  ihave HF' := (flNew c (wS (sl (i 0).val)) 80000 (u8b (bk (i 0).val)) (uqs (sl (i 0).val)) _ _ (X := qpay U)
    (q_src (k0_off5_eq i) (k0_off5_inb i hc2) f arg3 inb_S16x80000_S16x80000_0_0 U)) $$ Hs
  iapply HK
  isplitl [Hz]; · iexact Hz
  isplitl [Hu]; · iexact Hu
  isplitl [Hw]; · iexact Hw
  isplitl [Ha']; · iexact Ha'
  isplitl [Hc']; · iexact Hc'
  isplitl [HF']; · iexact HF'
  iexists _; iexact HW
/-- Grid point 1. -/
theorem run_1 (h50 : (i 0).val < 50) (hc1 : ¬ cnd1 i = 1#1) (hc2 : k0_cond2 i = 1#1) (hc3 : ¬ k0_cond3 i = 1#1) (hc4 : ¬ cnd4 i = 1#1) (hc5 : ¬ k0_cond5 i = 1#1) (hc6 : ¬ k0_cond6 i = 1#1)
    (Z) (U) (W) (A) (C) (f) (f8) (W0) (K : PUnit → sProp 𝕄) :
    iprop((hR (F := F) c arg2 Z ∗ hR c arg3 U ∗ hR c arg4 W ∗ hR c aM A ∗ hR c cM C ∗ hP c (uqs (sl (i 0).val)) f ∗ cellP c (wS (sl (i 0).val)) ∗ hP c (u8b (bk (i 0).val)) f8 ∗ owes (c : Thread nD τ) 0 W0)
      ∗ (iprop(hR (F := F) c arg2 Z ∗ hR c arg3 U ∗ hR c arg4 W ∗ hR c aM (k0_pay9 W U A) ∗ hR c cM (k0_pay10 W (zs50 Z (bk (i 0).val)) C) ∗ wfl c (sl (i 0).val) (bk (i 0).val) (qpay U) ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  iintro ⟨⟨Hz, Hu, Hw, Ha, Hc, Hf, Hs, H8, HW⟩, HK⟩
  have hu := uq_in (sl (i 0).val) (k0_off5_eq i) (k0_off5_inb i hc2)
  have hu' : (uqM.access (Rect.unit (s := S2x16x80000) (k0_off5 i) S1x16x80000.size (k0_off5_inb i hc2))).setOn Finset.univ ⊆ (uqs (sl (i 0).val)).view.set := hu
  sl_exec
  sl_step
  ihave Ha' := (toR c aM _ (X := k0_pay9 W U A) ((View.read_writes_full _ _ _ _ _).trans (by rw [View.readAt_rep_full, View.readAt_rep_full, View.readAt_rep_full]))) $$ Ha
  ihave Hc' := (toR c cM _ (X := k0_pay10 W (zs50 Z (bk (i 0).val)) C) ((View.read_writes_full _ _ _ _ _).trans (by rw [View.readAt_rep_full, View.readAt_rep_full, read_zs50 arg2.view Z (b := bk (i 0).val) (Gen.k0_off1_eq i |>.trans (by rw [bkv h50]))]))) $$ Hc
  unfold run_1.sl.dma11 run_1.sl.Hf_w1
  ihave HF' := (flNew c (wS (sl (i 0).val)) 80000 (u8b (bk (i 0).val)) (uqs (sl (i 0).val)) _ _ (X := qpay U)
    (q_src (k0_off5_eq i) (k0_off5_inb i hc2) f arg3 inb_S16x80000_S16x80000_0_0 U)) $$ Hs
  iapply HK
  isplitl [Hz]; · iexact Hz
  isplitl [Hu]; · iexact Hu
  isplitl [Hw]; · iexact Hw
  isplitl [Ha']; · iexact Ha'
  isplitl [Hc']; · iexact Hc'
  isplitl [HF']; · iexact HF'
  iexists _; iexact HW
/-- Grid points 2 to 48. -/
theorem run_mid (h2 : 2 ≤ (i 0).val) (h50 : (i 0).val < 50) (hc1 : ¬ cnd1 i = 1#1) (hc2 : k0_cond2 i = 1#1) (hc3 : k0_cond3 i = 1#1) (hc4 : ¬ cnd4 i = 1#1) (hc5 : ¬ k0_cond5 i = 1#1) (hc6 : ¬ k0_cond6 i = 1#1)
    (Z) (U) (W) (A) (C) (Q) (f8) (W0) (K : PUnit → sProp 𝕄) :
    iprop((hR (F := F) c arg2 Z ∗ hR c arg3 U ∗ hR c arg4 W ∗ hR c aM A ∗ hR c cM C ∗ wfl c (sl (i 0).val) (bk ((i 0).val - 2)) Q ∗ hP c (u8b (bk (i 0).val)) f8 ∗ owes (c : Thread nD τ) 0 W0)
      ∗ (iprop(hR (F := F) c arg2 Z ∗ hR c arg3 U ∗ hR c arg4 W ∗ hR c aM (k0_pay9 W U A) ∗ hR c cM (k0_pay10 W (zs50 Z (bk (i 0).val)) C) ∗ hR c (u8b (bk ((i 0).val - 2))) Q ∗ wfl c (sl (i 0).val) (bk (i 0).val) (qpay U) ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  iintro ⟨⟨Hz, Hu, Hw, Ha, Hc, HF, H8, HW⟩, HK⟩
  have hu := uq_in (sl (i 0).val) (k0_off5_eq i) (k0_off5_inb i hc2)
  have hu' : (uqM.access (Rect.unit (s := S2x16x80000) (k0_off5 i) S1x16x80000.size (k0_off5_inb i hc2))).setOn Finset.univ ⊆ (uqs (sl (i 0).val)).view.set := hu
  sl_exec
  sl_step
  ihave Ha' := (toR c aM _ (X := k0_pay9 W U A) ((View.read_writes_full _ _ _ _ _).trans (by rw [View.readAt_rep_full, View.readAt_rep_full, View.readAt_rep_full]))) $$ Ha
  ihave Hc' := (toR c cM _ (X := k0_pay10 W (zs50 Z (bk (i 0).val)) C) ((View.read_writes_full _ _ _ _ _).trans (by rw [View.readAt_rep_full, View.readAt_rep_full, read_zs50 arg2.view Z (b := bk (i 0).val) (Gen.k0_off1_eq i |>.trans (by rw [bkv h50]))]))) $$ Hc
  unfold run_mid.sl.dma11 run_mid.sl.HF_src_w1
  ihave HF' := (flNew c (wS (sl (i 0).val)) 80000 (u8b (bk (i 0).val)) (uqs (sl (i 0).val)) _ _ (X := qpay U)
    (q_src (k0_off5_eq i) (k0_off5_inb i hc2) ((uqs (sl (i 0).val)).view.rep Q) arg3 inb_S16x80000_S16x80000_0_0 U)) $$ HF
  iapply HK
  isplitl [Hz]; · iexact Hz
  isplitl [Hu]; · iexact Hu
  isplitl [Hw]; · iexact Hw
  isplitl [Ha']; · iexact Ha'
  isplitl [Hc']; · iexact Hc'
  isplitl [HF_dst]; · iexact HF_dst
  isplitl [HF']; · iexact HF'
  iexists _; iexact HW
/-- Grid point 49. -/
theorem run_49 (h2 : 2 ≤ (i 0).val) (h50 : (i 0).val < 50) (hc1 : ¬ cnd1 i = 1#1) (hc2 : k0_cond2 i = 1#1) (hc3 : k0_cond3 i = 1#1) (hc4 : cnd4 i = 1#1) (hc5 : ¬ k0_cond5 i = 1#1) (hc6 : ¬ k0_cond6 i = 1#1)
    (Z) (U) (W) (A) (C) (Q) (f8) (X) (g) (W0) (K : PUnit → sProp 𝕄) :
    iprop((hR (F := F) c arg2 Z ∗ hR c arg3 U ∗ hR c arg4 W ∗ hR c aM A ∗ hR c cM C ∗ wfl c (sl (i 0).val) (bk ((i 0).val - 2)) Q ∗ hP c (u8b (bk (i 0).val)) f8 ∗ hR c (u8r 0) X ∗ hP c (rqs 0) g ∗ cellP c (rS 0) ∗ owes (c : Thread nD τ) 0 W0)
      ∗ (iprop(hR (F := F) c arg2 Z ∗ hR c arg3 U ∗ hR c arg4 W ∗ hR c aM (k0_pay9 W U A) ∗ hR c cM (k0_pay10 W (zs50 Z (bk (i 0).val)) C) ∗ hR c (u8b (bk ((i 0).val - 2))) Q ∗ wfl c (sl (i 0).val) (bk (i 0).val) (qpay U) ∗ gfl c 0 0 X ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  iintro ⟨⟨Hz, Hu, Hw, Ha, Hc, HF, H8, Hr, Hg, Hgs, HW⟩, HK⟩
  have hu := uq_in (sl (i 0).val) (k0_off5_eq i) (k0_off5_inb i hc2)
  have hu' : (uqM.access (Rect.unit (s := S2x16x80000) (k0_off5 i) S1x16x80000.size (k0_off5_inb i hc2))).setOn Finset.univ ⊆ (uqs (sl (i 0).val)).view.set := hu
  sl_exec
  sl_step
  ihave Ha' := (toR c aM _ (X := k0_pay9 W U A) ((View.read_writes_full _ _ _ _ _).trans (by rw [View.readAt_rep_full, View.readAt_rep_full, View.readAt_rep_full]))) $$ Ha
  ihave Hc' := (toR c cM _ (X := k0_pay10 W (zs50 Z (bk (i 0).val)) C) ((View.read_writes_full _ _ _ _ _).trans (by rw [View.readAt_rep_full, View.readAt_rep_full, read_zs50 arg2.view Z (b := bk (i 0).val) (Gen.k0_off1_eq i |>.trans (by rw [bkv h50]))]))) $$ Hc
  unfold run_49.sl.dma11 run_49.sl.HF_src_w1
  ihave HF' := (flNew c (wS (sl (i 0).val)) 80000 (u8b (bk (i 0).val)) (uqs (sl (i 0).val)) _ _ (X := qpay U)
    (q_src (k0_off5_eq i) (k0_off5_inb i hc2) ((uqs (sl (i 0).val)).view.rep Q) arg3 inb_S16x80000_S16x80000_0_0 U)) $$ HF
  unfold run_49.sl.dma11_1
  ihave Hg' := (flNew' c (rS 0) (SemLoc.dma ⟨9, _⟩) rfl 160000 (rqs 0) (u8r 0) _ _ (X := X) (View.read_rep _ X)) $$ Hgs
  iapply HK
  isplitl [Hz]; · iexact Hz
  isplitl [Hu]; · iexact Hu
  isplitl [Hw]; · iexact Hw
  isplitl [Ha']; · iexact Ha'
  isplitl [Hc']; · iexact Hc'
  isplitl [HF_dst]; · iexact HF_dst
  isplitl [HF']; · iexact HF'
  isplitl [Hg']; · iexact Hg'
  iexists _; iexact HW

end Runs
end Cert.KernelIdeal.Own
end
-- ==== Proof.KI.RunsB.lean ====
/-
  The body at the last twenty-five grid points.
-/
module

public import proofs.«01_k».proof.Proof.KI.RunsA

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
section Runs
variable (c : Dev nD) (i : grid0.Coords)
  (arg1 : Memref sig .tc .vmem S16x1 .f32) (harg1 : arg1.IsWhole)
  (arg2 : Memref sig .tc .vmem S4000000 .f32) (harg2 : arg2.IsWhole)
  (arg3 : Memref sig .tc .vmem S16x80000 .f32) (harg3 : arg3.IsWhole)
  (arg4 : Memref sig .tc .vmem S16x80000 .f32) (harg4 : arg4.IsWhole)
  (arg5 : Memref sig .tc .vmem S1x1 .f32) (harg5 : arg5.IsWhole)

/-- One block of results: the base's entries and the row of weights against the region, scaled. -/
def yblk (H : Vec F S1x16 .f32) (X : S16x160000.Idx → Elt F .fp8e4m3) (Z : S4000000.Idx → Elt F .f32) (j : Fin 25) : S160000.Idx → Elt F .f32 :=
  k0_pay69 H (un160 X) (zs25 Z j)
theorem sl74 (h : (i 0).val = 74) : sl (i 0).val = 0 := by rw [h]; rfl
theorem rg74 (h : (i 0).val = 74) : rg ((i 0).val - 50) = 24 := by rw [h]; rfl
theorem e74 {off : Fin 3 → ℕ} (h : (i 0).val = 74) (e : off = ![(sl (i 0).val).val, 0, 0]) : off = ![(0 : Fin 2).val, 0, 0] := by rw [e, sl74 i h]
theorem e74z {off : Fin 2 → ℕ} {o : ℕ} (h : (i 0).val = 74) (e : off = ![(sl (i 0).val).val, o]) : off = ![(0 : Fin 2).val, o] := by rw [e, sl74 i h]
/-- What the copy of a block of results reads. -/
theorem z_src {s : Fin 2} {j : Fin 25} {r0 r1 r2 r3 r4 : Fin 2 → ℕ} (e0 : r0 = ![s.val, 0]) (e1 : r1 = ![s.val, 38400]) (e2 : r2 = ![s.val, 76800])
    (e3 : r3 = ![s.val, 115200]) (e4 : r4 = ![s.val, 153600]) (h0 h1 h2 h3 h4) (f : (zosM.view).ty.Contents (Elt F))
    {rr : Fin 3 → ℕ} (er : rr = ![s.val, 0, 0]) (hr) {rz : Fin 1 → ℕ} (ez : rz = ![160000 * j.val]) (hz)
    (m : Memref sig .tc .vmem S4000000 .f32) (H H' : Vec F S1x16 .f32) (hH : H' = H) (X : S16x160000.Idx → Elt F .fp8e4m3) (Z : S4000000.Idx → Elt F .f32)
    (X' : Vec F S1x16x160000 .fp8e4m3) (hX : X' = rqM.view.readAt (Elt F) (Rect.unit (s := S2x16x160000) rr S1x16x160000.size hr).toLoadRect ((rqs s).view.rep X))
    (Z' : Vec F S160000 .f32) (hZ : Z' = m.view.readAt (Elt F) (Rect.unit (s := S4000000) rz S160000.size hz).toLoadRect (m.view.rep Z)) :
    (zos s).view.read (Elt F)
      ((zosM.access (Rect.unit (s := S2x160000) r4 S1x6400.size h4)).write (Elt F)
        ((zosM.access (Rect.unit (s := S2x160000) r3 S1x38400.size h3)).write (Elt F)
          ((zosM.access (Rect.unit (s := S2x160000) r2 S1x38400.size h2)).write (Elt F)
            ((zosM.access (Rect.unit (s := S2x160000) r1 S1x38400.size h1)).write (Elt F)
              ((zosM.access (Rect.unit (s := S2x160000) r0 S1x38400.size h0)).write (Elt F) f (k0_pay70 H' X' Z') Finset.univ)
              (k0_pay5 (k0_pay71 H' X' Z')) Finset.univ)
            (k0_pay6 (k0_pay69 H' X' Z')) Finset.univ)
          (k0_pay7 (k0_pay69 H' X' Z')) Finset.univ)
        (k0_pay8 (k0_pay69 H' X' Z')) Finset.univ) = yblk H X Z j := by
  subst hX hZ hH
  rw [zos_read e0 e1 e2 e3 e4, rq_read er, read_zs25 m.view Z ez]
  rfl

/-- Grid point 50. -/
theorem run_50 (h50 : 50 ≤ (i 0).val) (h74 : (i 0).val < 74) (hc1 : ¬ cnd1 i = 1#1) (hc2 : ¬ k0_cond2 i = 1#1) (hc4 : ¬ cnd4 i = 1#1) (hc5 : k0_cond5 i = 1#1) (hc6 : k0_cond6 i = 1#1) (hc7 : k0_cond7 i = 1#1) (hc8 : ¬ k0_cond8 i = 1#1) (hc9 : ¬ cnd9 i = 1#1)
    (Z) (X) (fz) (X') (g) (fo) (fh) (A) (C) (B) (f5) (Q0) (Q1) (W0) (K : PUnit → sProp 𝕄) :
    iprop((hR c arg1 B ∗ hP c arg5 f5 ∗ hR c aM A ∗ hR c cM C ∗ wfl c 0 48 Q0 ∗ wfl c 1 49 Q1 ∗ hP c hM fh ∗ hR (F := F) c arg2 Z ∗ gfl c (sl (i 0).val) (rg ((i 0).val - 50)) X ∗ hP c (zob (rg ((i 0).val - 50))) fz ∗ hR c (u8r (rg ((i 0).val - 49))) X' ∗ hP c (rqs (sl ((i 0).val + 1))) g ∗ cellP c (rS (sl ((i 0).val + 1))) ∗ hP c (zos (sl (i 0).val)) fo ∗ cellP c (zS (sl (i 0).val)) ∗ owes (c : Thread nD τ) 0 W0)
      ∗ (iprop(hR c arg1 B ∗ hR c arg5 (ldAt A (k0_pay12 C B) 16 (by decide)) ∗ hR c aM A ∗ hR c cM C ∗ hR c (u8b 48) Q0 ∗ hR c (u8b 49) Q1 ∗ hR c (uqs 0) Q0 ∗ hR c (uqs 1) Q1 ∗ cellP c (wS 0) ∗ cellP c (wS 1) ∗ hR c hM (hRow A (k0_pay12 C B)) ∗ hR (F := F) c arg2 Z ∗ hR c (rqs (sl (i 0).val)) X ∗ hR c (u8r (rg ((i 0).val - 50))) X ∗ cellP c (rS (sl (i 0).val)) ∗ zfl c (sl (i 0).val) (rg ((i 0).val - 50)) (yblk (hRow A (k0_pay12 C B)) X Z (rg ((i 0).val - 50))) ∗ gfl c (sl ((i 0).val + 1)) (rg ((i 0).val - 49)) X' ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  iintro ⟨⟨Hb, H5, Ha, Hc, HF0, HF1, Hh, Hz, HR, Ho, Hn, Hr, Hrs, Hzo, Hzs, HW⟩, HK⟩
  have hr := rq_in (sl (i 0).val) (o15 i h50) (k0_off15_inb i hc6)
  have hz20 := zs_in (sl (i 0).val) 0 (o20 i h50) rfl (by decide) (k0_off20_inb i hc6)
  have hz20' : (zosM.access (Rect.unit (s := S2x160000) (k0_off20 i) S1x38400.size (k0_off20_inb i hc6))).setOn Finset.univ ⊆ (zos (sl (i 0).val)).view.set := hz20
  have hz21 := zs_in (sl (i 0).val) 38400 (o21 i h50) rfl (by decide) (k0_off21_inb i hc6)
  have hz21' : (zosM.access (Rect.unit (s := S2x160000) (k0_off21 i) S1x38400.size (k0_off21_inb i hc6))).setOn Finset.univ ⊆ (zos (sl (i 0).val)).view.set := hz21
  have hz22 := zs_in (sl (i 0).val) 76800 (o22 i h50) rfl (by decide) (k0_off22_inb i hc6)
  have hz22' : (zosM.access (Rect.unit (s := S2x160000) (k0_off22 i) S1x38400.size (k0_off22_inb i hc6))).setOn Finset.univ ⊆ (zos (sl (i 0).val)).view.set := hz22
  have hz23 := zs_in (sl (i 0).val) 115200 (o23 i h50) rfl (by decide) (k0_off23_inb i hc6)
  have hz23' : (zosM.access (Rect.unit (s := S2x160000) (k0_off23 i) S1x38400.size (k0_off23_inb i hc6))).setOn Finset.univ ⊆ (zos (sl (i 0).val)).view.set := hz23
  have hz24 := zs_in (sl (i 0).val) 153600 (o24 i h50) rfl (by decide) (k0_off24_inb i hc6)
  have hz24' : (zosM.access (Rect.unit (s := S2x160000) (k0_off24 i) S1x6400.size (k0_off24_inb i hc6))).setOn Finset.univ ⊆ (zos (sl (i 0).val)).view.set := hz24
  sl_exec
  sl_step
  have rA : aM.view.readAt (Elt F) (Rect.unit (s := S16x16) ![0, 0] S16x16.size inb_S16x16_S16x16_0_0).toLoadRect (aM.view.rep A) = A := View.readAt_rep_full _ _ _
  have rC : cM.view.readAt (Elt F) (Rect.unit (s := S16x1) ![0, 0] S16x1.size inb_S16x1_S16x1_0_0).toLoadRect (cM.view.rep C) = C := View.readAt_rep_full _ _ _
  have rB : arg1.view.readAt (Elt F) (Rect.unit (s := S16x1) ![0, 0] S16x1.size inb_S16x1_S16x1_0_0).toLoadRect (arg1.view.rep B) = B := View.readAt_rep_full _ _ _
  generalize hD : k0_pay12 C B = D
  have r0 : run_50.sl.r A = A := rA
  have r1 : run_50.sl.r_1 arg1 C B = D := by unfold run_50.sl.r_1; rw [rC, rB]; exact hD
  have r2 : run_50.sl.r_2 arg1 C B = k0_pay15 C B := by unfold run_50.sl.r_2; rw [rC, rB]
  have r3 : run_50.sl.r_3 arg1 A C B = k0_pay16 A C B := by unfold run_50.sl.r_3; rw [rA, rC, rB]
  have r4 : run_50.sl.r_4 arg1 A C B = k0_pay17 A C B := by unfold run_50.sl.r_4; rw [rA, rC, rB]
  have r5 : run_50.sl.r_5 arg1 A C B = rowAt A D 2 (by decide) := by unfold run_50.sl.r_5; rw [r1, r2, r4]; exact s_row2 A C B D hD
  have r6 : run_50.sl.r_6 arg1 A C B = hAt A D 2 := by unfold run_50.sl.r_6; rw [r0, r1, r4]; exact s_h2 A C B D hD
  have r7 : run_50.sl.r_7 arg1 A C B = ldAt A D 3 (by decide) := by unfold run_50.sl.r_7; rw [r0, r1, r3, r4]; exact s_ld3 A C B D hD
  have r8 : run_50.sl.r_8 arg1 A C B = accAt A D 3 (by decide) := by unfold run_50.sl.r_8; rw [r0, r1, r4]; exact s_acc3 A C B D hD
  have r9 : run_50.sl.r_9 arg1 A C B = rowAt A D 4 (by decide) := by unfold run_50.sl.r_9; rw [r1, r5, r6, r8]; exact s_row4 A D
  have r10 : run_50.sl.r_10 arg1 A C B = hAt A D 4 := by unfold run_50.sl.r_10; rw [r0, r1, r8]; exact s_h4 A D
  have r11 : run_50.sl.r_11 arg1 A C B = ldAt A D 5 (by decide) := by unfold run_50.sl.r_11; rw [r0, r1, r7, r8]; exact s_ld5 A D
  have r12 : run_50.sl.r_12 arg1 A C B = accAt A D 5 (by decide) := by unfold run_50.sl.r_12; rw [r0, r1, r8]; exact s_acc5 A D
  have r13 : run_50.sl.r_13 arg1 A C B = rowAt A D 6 (by decide) := by unfold run_50.sl.r_13; rw [r1, r9, r10, r12]; exact s_row6 A D
  have r14 : run_50.sl.r_14 arg1 A C B = ldAt A D 7 (by decide) := by unfold run_50.sl.r_14; rw [r0, r1, r11, r12]; exact s_ld7 A D
  have r15 : run_50.sl.r_15 arg1 A C B = accAt A D 7 (by decide) := by unfold run_50.sl.r_15; rw [r0, r1, r12]; exact s_acc7 A D
  have r16 : run_50.sl.r_16 arg1 A C B = k0_pay39 A D (accAt A D 5 (by decide)) := by unfold run_50.sl.r_16; rw [r0, r1, r12]
  have r17 : run_50.sl.r_17 arg1 A C B = rowAt A D 8 (by decide) := by unfold run_50.sl.r_17; rw [r1, r13, r15, r16]; exact s_row8 A D
  have r18 : run_50.sl.r_18 arg1 A C B = ldAt A D 9 (by decide) := by unfold run_50.sl.r_18; rw [r0, r1, r14, r15]; exact s_ld9 A D
  have r19 : run_50.sl.r_19 arg1 A C B = accAt A D 9 (by decide) := by unfold run_50.sl.r_19; rw [r0, r1, r15]; exact s_acc9 A D
  have r20 : run_50.sl.r_20 arg1 A C B = k0_pay47 A D (accAt A D 7 (by decide)) := by unfold run_50.sl.r_20; rw [r0, r1, r15]
  have r21 : run_50.sl.r_21 arg1 A C B = ldAt A D 11 (by decide) := by unfold run_50.sl.r_21; rw [r0, r1, r18, r19]; exact s_ld11 A D
  have r22 : run_50.sl.r_22 arg1 A C B = accAt A D 11 (by decide) := by unfold run_50.sl.r_22; rw [r0, r1, r19]; exact s_acc11 A D
  have r23 : run_50.sl.r_23 arg1 A C B = rowAt A D 11 (by decide) := by unfold run_50.sl.r_23; rw [r0, r1, r17, r19, r20]; exact s_row11 A D
  have r24 : run_50.sl.r_24 arg1 A C B = ldAt A D 13 (by decide) := by unfold run_50.sl.r_24; rw [r0, r1, r21, r22]; exact s_ld13 A D
  have r25 : run_50.sl.r_25 arg1 A C B = accAt A D 13 (by decide) := by unfold run_50.sl.r_25; rw [r0, r1, r22]; exact s_acc13 A D
  have r26 : run_50.sl.r_26 arg1 A C B = rowAt A D 13 (by decide) := by unfold run_50.sl.r_26; rw [r0, r1, r22, r23]; exact s_row13 A D
  have r27 : run_50.sl.r_27 arg1 C B = k0_pay61 D := by unfold run_50.sl.r_27; rw [r1]
  have r28 : run_50.sl.r_28 arg1 A C B = k0_pay62 A D (accAt A D 11 (by decide)) := by unfold run_50.sl.r_28; rw [r0, r1, r22]
  have r29 : run_50.sl.r_29 arg1 A C B = ldAt A D 15 (by decide) := by unfold run_50.sl.r_29; rw [r0, r1, r24, r25, r27, r28]; exact s_ld15 A D
  have r30 : run_50.sl.r_30 arg1 A C B = rowAt A D 15 (by decide) := by unfold run_50.sl.r_30; rw [r0, r1, r25, r26, r27, r28]; exact s_row15 A D
  have r31 : run_50.sl.r_31 arg1 A C B = hAt A D 15 := by unfold run_50.sl.r_31; rw [r0, r1, r25, r27, r28]; exact s_h15 A D
  have hld : k0_pay3 (run_50.sl.r A) (run_50.sl.r_29 arg1 A C B) (run_50.sl.r_31 arg1 A C B) = ldAt A D 16 (by decide) := by rw [r0, r29, r31]; exact s_ld16 A D
  have hhr : k0_pay4 run_50.sl.v32 (run_50.sl.r_30 arg1 A C B) (run_50.sl.r_31 arg1 A C B) = hRow A D := by rw [r30, r31]; rfl
  have hHr : run_50.sl.v27 arg1 A C B = hRow A D := by unfold run_50.sl.v27 run_50.sl.Hh_1; exact (View.readCov_full _ _ _ _ _).trans hhr
  have hs : (zos (sl (i 0).val)).view.read (Elt F) (run_50.sl.Hzo_w5 c i arg1 arg2 hc6 Z X fo A C B) = yblk (hRow A D) X Z (rg ((i 0).val - 50)) :=
    z_src (o20 i h50) (o21 i h50) (o22 i h50) (o23 i h50) (o24 i h50) (k0_off20_inb i hc6) (k0_off21_inb i hc6) (k0_off22_inb i hc6) (k0_off23_inb i hc6) (k0_off24_inb i hc6) fo
      (o15 i h50) (k0_off15_inb i hc6) ((o16 i h50).trans (by rw [rgv (by omega)])) (k0_off16_inb i hc6) arg2 (hRow A D) _ hHr X Z _ rfl _ rfl
  unfold run_50.sl.dma7
  ihave Hn' := (flNew c (rS (sl ((i 0).val + 1))) 160000 (rqs (sl ((i 0).val + 1))) (u8r (rg ((i 0).val - 49))) _ _ (X := X') (View.read_rep _ X')) $$ Hrs
  unfold run_50.sl.dma20
  ihave HZ' := (flNew c (zS (sl (i 0).val)) 20000 (zob (rg ((i 0).val - 50))) (zos (sl (i 0).val)) _ _ hs) $$ Hzs
  ihave H5' := (toR c arg5 _ (X := ldAt A D 16 (by decide)) ((View.read_writes_full _ _ _ _ _).trans hld)) $$ H5
  ihave Hh' := (toR c hM _ (X := hRow A D) (by unfold run_50.sl.Hh_1; exact (View.read_writes_full _ _ _ _ _).trans hhr)) $$ Hh
  iapply HK
  isplitl [Hb]; · iexact Hb
  isplitl [H5']; · iexact H5'
  isplitl [Ha]; · iexact Ha
  isplitl [Hc]; · iexact Hc
  isplitl [HF0_dst]; · iexact HF0_dst
  isplitl [HF1_dst]; · iexact HF1_dst
  isplitl [HF0_src]; · iexact HF0_src
  isplitl [HF1_src]; · iexact HF1_src
  isplitl [HF0]; · iexact HF0
  isplitl [HF1]; · iexact HF1
  isplitl [Hh']; · iexact Hh'
  isplitl [Hz]; · iexact Hz
  isplitl [HR_dst]; · iexact HR_dst
  isplitl [HR_src]; · iexact HR_src
  isplitl [HR]; · iexact HR
  isplitl [HZ']; · iexact HZ'
  isplitl [Hn']; · iexact Hn'
  iexists _; iexact HW
/-- Grid point 51. -/
theorem run_51 (h50 : 50 ≤ (i 0).val) (h74 : (i 0).val < 74) (hc1 : ¬ cnd1 i = 1#1) (hc2 : ¬ k0_cond2 i = 1#1) (hc4 : ¬ cnd4 i = 1#1) (hc5 : ¬ k0_cond5 i = 1#1) (hc6 : k0_cond6 i = 1#1) (hc7 : k0_cond7 i = 1#1) (hc8 : ¬ k0_cond8 i = 1#1) (hc9 : ¬ cnd9 i = 1#1)
    (Z) (X) (fz) (X') (g) (fo) (H) (W0) (K : PUnit → sProp 𝕄) :
    iprop((hR c hM H ∗ hR (F := F) c arg2 Z ∗ gfl c (sl (i 0).val) (rg ((i 0).val - 50)) X ∗ hP c (zob (rg ((i 0).val - 50))) fz ∗ hR c (u8r (rg ((i 0).val - 49))) X' ∗ hP c (rqs (sl ((i 0).val + 1))) g ∗ cellP c (rS (sl ((i 0).val + 1))) ∗ hP c (zos (sl (i 0).val)) fo ∗ cellP c (zS (sl (i 0).val)) ∗ owes (c : Thread nD τ) 0 W0)
      ∗ (iprop(hR c hM H ∗ hR (F := F) c arg2 Z ∗ hR c (rqs (sl (i 0).val)) X ∗ hR c (u8r (rg ((i 0).val - 50))) X ∗ cellP c (rS (sl (i 0).val)) ∗ zfl c (sl (i 0).val) (rg ((i 0).val - 50)) (yblk H X Z (rg ((i 0).val - 50))) ∗ gfl c (sl ((i 0).val + 1)) (rg ((i 0).val - 49)) X' ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  iintro ⟨⟨Hh, Hz, HR, Ho, Hn, Hr, Hrs, Hzo, Hzs, HW⟩, HK⟩
  have hr := rq_in (sl (i 0).val) (o15 i h50) (k0_off15_inb i hc6)
  have hz20 := zs_in (sl (i 0).val) 0 (o20 i h50) rfl (by decide) (k0_off20_inb i hc6)
  have hz20' : (zosM.access (Rect.unit (s := S2x160000) (k0_off20 i) S1x38400.size (k0_off20_inb i hc6))).setOn Finset.univ ⊆ (zos (sl (i 0).val)).view.set := hz20
  have hz21 := zs_in (sl (i 0).val) 38400 (o21 i h50) rfl (by decide) (k0_off21_inb i hc6)
  have hz21' : (zosM.access (Rect.unit (s := S2x160000) (k0_off21 i) S1x38400.size (k0_off21_inb i hc6))).setOn Finset.univ ⊆ (zos (sl (i 0).val)).view.set := hz21
  have hz22 := zs_in (sl (i 0).val) 76800 (o22 i h50) rfl (by decide) (k0_off22_inb i hc6)
  have hz22' : (zosM.access (Rect.unit (s := S2x160000) (k0_off22 i) S1x38400.size (k0_off22_inb i hc6))).setOn Finset.univ ⊆ (zos (sl (i 0).val)).view.set := hz22
  have hz23 := zs_in (sl (i 0).val) 115200 (o23 i h50) rfl (by decide) (k0_off23_inb i hc6)
  have hz23' : (zosM.access (Rect.unit (s := S2x160000) (k0_off23 i) S1x38400.size (k0_off23_inb i hc6))).setOn Finset.univ ⊆ (zos (sl (i 0).val)).view.set := hz23
  have hz24 := zs_in (sl (i 0).val) 153600 (o24 i h50) rfl (by decide) (k0_off24_inb i hc6)
  have hz24' : (zosM.access (Rect.unit (s := S2x160000) (k0_off24 i) S1x6400.size (k0_off24_inb i hc6))).setOn Finset.univ ⊆ (zos (sl (i 0).val)).view.set := hz24
  sl_exec
  sl_step
  have hs : (zos (sl (i 0).val)).view.read (Elt F) (run_51.sl.Hzo_w5 c i arg2 hc6 Z X fo H) = yblk H X Z (rg ((i 0).val - 50)) :=
    z_src (o20 i h50) (o21 i h50) (o22 i h50) (o23 i h50) (o24 i h50) (k0_off20_inb i hc6) (k0_off21_inb i hc6) (k0_off22_inb i hc6) (k0_off23_inb i hc6) (k0_off24_inb i hc6) fo
      (o15 i h50) (k0_off15_inb i hc6) ((o16 i h50).trans (by rw [rgv (by omega)])) (k0_off16_inb i hc6) arg2 H _ (View.readAt_rep_full _ H _) X Z _ rfl _ rfl
  unfold run_51.sl.dma0
  ihave Hn' := (flNew c (rS (sl ((i 0).val + 1))) 160000 (rqs (sl ((i 0).val + 1))) (u8r (rg ((i 0).val - 49))) _ _ (X := X') (View.read_rep _ X')) $$ Hrs
  unfold run_51.sl.dma13
  ihave HZ' := (flNew c (zS (sl (i 0).val)) 20000 (zob (rg ((i 0).val - 50))) (zos (sl (i 0).val)) _ _ hs) $$ Hzs
  iapply HK
  isplitl [Hh]; · iexact Hh
  isplitl [Hz]; · iexact Hz
  isplitl [HR_dst]; · iexact HR_dst
  isplitl [HR_src]; · iexact HR_src
  isplitl [HR]; · iexact HR
  isplitl [HZ']; · iexact HZ'
  isplitl [Hn']; · iexact Hn'
  iexists _; iexact HW
/-- Grid points 52 to 73. -/
theorem run_ap (h52 : 52 ≤ (i 0).val) (h50 : 50 ≤ (i 0).val) (h74 : (i 0).val < 74) (hc1 : ¬ cnd1 i = 1#1) (hc2 : ¬ k0_cond2 i = 1#1) (hc4 : ¬ cnd4 i = 1#1) (hc5 : ¬ k0_cond5 i = 1#1) (hc6 : k0_cond6 i = 1#1) (hc7 : k0_cond7 i = 1#1) (hc8 : k0_cond8 i = 1#1) (hc9 : ¬ cnd9 i = 1#1)
    (Z) (X) (fz) (X') (g) (H) (Y0) (W0) (K : PUnit → sProp 𝕄) :
    iprop((hR c hM H ∗ hR (F := F) c arg2 Z ∗ gfl c (sl (i 0).val) (rg ((i 0).val - 50)) X ∗ hP c (zob (rg ((i 0).val - 50))) fz ∗ hR c (u8r (rg ((i 0).val - 49))) X' ∗ hP c (rqs (sl ((i 0).val + 1))) g ∗ cellP c (rS (sl ((i 0).val + 1))) ∗ zfl c (sl (i 0).val) (rg ((i 0).val - 52)) Y0 ∗ owes (c : Thread nD τ) 0 W0)
      ∗ (iprop(hR c hM H ∗ hR (F := F) c arg2 Z ∗ hR c (rqs (sl (i 0).val)) X ∗ hR c (u8r (rg ((i 0).val - 50))) X ∗ cellP c (rS (sl (i 0).val)) ∗ hR c (zob (rg ((i 0).val - 52))) Y0 ∗ zfl c (sl (i 0).val) (rg ((i 0).val - 50)) (yblk H X Z (rg ((i 0).val - 50))) ∗ gfl c (sl ((i 0).val + 1)) (rg ((i 0).val - 49)) X' ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  iintro ⟨⟨Hh, Hz, HR, Ho, Hn, Hr, Hrs, HZ, HW⟩, HK⟩
  have hr := rq_in (sl (i 0).val) (o15 i h50) (k0_off15_inb i hc6)
  have hz20 := zs_in (sl (i 0).val) 0 (o20 i h50) rfl (by decide) (k0_off20_inb i hc6)
  have hz20' : (zosM.access (Rect.unit (s := S2x160000) (k0_off20 i) S1x38400.size (k0_off20_inb i hc6))).setOn Finset.univ ⊆ (zos (sl (i 0).val)).view.set := hz20
  have hz21 := zs_in (sl (i 0).val) 38400 (o21 i h50) rfl (by decide) (k0_off21_inb i hc6)
  have hz21' : (zosM.access (Rect.unit (s := S2x160000) (k0_off21 i) S1x38400.size (k0_off21_inb i hc6))).setOn Finset.univ ⊆ (zos (sl (i 0).val)).view.set := hz21
  have hz22 := zs_in (sl (i 0).val) 76800 (o22 i h50) rfl (by decide) (k0_off22_inb i hc6)
  have hz22' : (zosM.access (Rect.unit (s := S2x160000) (k0_off22 i) S1x38400.size (k0_off22_inb i hc6))).setOn Finset.univ ⊆ (zos (sl (i 0).val)).view.set := hz22
  have hz23 := zs_in (sl (i 0).val) 115200 (o23 i h50) rfl (by decide) (k0_off23_inb i hc6)
  have hz23' : (zosM.access (Rect.unit (s := S2x160000) (k0_off23 i) S1x38400.size (k0_off23_inb i hc6))).setOn Finset.univ ⊆ (zos (sl (i 0).val)).view.set := hz23
  have hz24 := zs_in (sl (i 0).val) 153600 (o24 i h50) rfl (by decide) (k0_off24_inb i hc6)
  have hz24' : (zosM.access (Rect.unit (s := S2x160000) (k0_off24 i) S1x6400.size (k0_off24_inb i hc6))).setOn Finset.univ ⊆ (zos (sl (i 0).val)).view.set := hz24
  sl_exec
  sl_step
  have hs : (zos (sl (i 0).val)).view.read (Elt F) (run_ap.sl.HZ_src_w5 i arg2 hc6 Z X H Y0) = yblk H X Z (rg ((i 0).val - 50)) :=
    z_src (o20 i h50) (o21 i h50) (o22 i h50) (o23 i h50) (o24 i h50) (k0_off20_inb i hc6) (k0_off21_inb i hc6) (k0_off22_inb i hc6) (k0_off23_inb i hc6) (k0_off24_inb i hc6) ((zos (sl (i 0).val)).view.rep Y0)
      (o15 i h50) (k0_off15_inb i hc6) ((o16 i h50).trans (by rw [rgv (by omega)])) (k0_off16_inb i hc6) arg2 H _ (View.readAt_rep_full _ H _) X Z _ rfl _ rfl
  unfold run_ap.sl.dma0
  ihave Hn' := (flNew c (rS (sl ((i 0).val + 1))) 160000 (rqs (sl ((i 0).val + 1))) (u8r (rg ((i 0).val - 49))) _ _ (X := X') (View.read_rep _ X')) $$ Hrs
  unfold run_ap.sl.dma13
  ihave HZ' := (flNew c (zS (sl (i 0).val)) 20000 (zob (rg ((i 0).val - 50))) (zos (sl (i 0).val)) _ _ hs) $$ HZ
  iapply HK
  isplitl [Hh]; · iexact Hh
  isplitl [Hz]; · iexact Hz
  isplitl [HR_dst]; · iexact HR_dst
  isplitl [HR_src]; · iexact HR_src
  isplitl [HR]; · iexact HR
  isplitl [HZ_dst]; · iexact HZ_dst
  isplitl [HZ']; · iexact HZ'
  isplitl [Hn']; · iexact Hn'
  iexists _; iexact HW
attribute [local sl_canon] sl74 rg74 in
/-- Grid point 74. -/
theorem run_74 (h50 : 50 ≤ (i 0).val) (h74 : (i 0).val = 74) (hc1 : ¬ cnd1 i = 1#1) (hc2 : ¬ k0_cond2 i = 1#1) (hc4 : ¬ cnd4 i = 1#1) (hc5 : ¬ k0_cond5 i = 1#1) (hc6 : k0_cond6 i = 1#1) (hc7 : ¬ k0_cond7 i = 1#1) (hc8 : k0_cond8 i = 1#1) (hc9 : cnd9 i = 1#1)
    (Z) (X) (fz) (H) (Y0) (Y1) (W0) (K : PUnit → sProp 𝕄) :
    iprop((hR c hM H ∗ hR (F := F) c arg2 Z ∗ gfl c 0 24 X ∗ hP c (zob 24) fz ∗ zfl c 0 (rg ((i 0).val - 52)) Y0 ∗ zfl c 1 23 Y1 ∗ owes (c : Thread nD τ) 0 W0)
      ∗ (iprop(hR c hM H ∗ hR (F := F) c arg2 Z ∗ hR c (rqs 0) X ∗ hR c (u8r 24) X ∗ cellP c (rS 0) ∗ hR c (zob (rg ((i 0).val - 52))) Y0 ∗ hR c (zob 24) (yblk H X Z 24) ∗ hR c (zos 0) (yblk H X Z 24) ∗ cellP c (zS 0) ∗ hR c (zob 23) Y1 ∗ hR c (zos 1) Y1 ∗ cellP c (zS 1) ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  iintro ⟨⟨Hh, Hz, HR, Ho, HZ, HZ1, HW⟩, HK⟩
  have hr := rq_in 0 (e74 i h74 (o15 i h50)) (k0_off15_inb i hc6)
  have hz20 := zs_in 0 0 (e74z i h74 (o20 i h50)) rfl (by decide) (k0_off20_inb i hc6)
  have hz20' : (zosM.access (Rect.unit (s := S2x160000) (k0_off20 i) S1x38400.size (k0_off20_inb i hc6))).setOn Finset.univ ⊆ (zos 0).view.set := hz20
  have hz21 := zs_in 0 38400 (e74z i h74 (o21 i h50)) rfl (by decide) (k0_off21_inb i hc6)
  have hz21' : (zosM.access (Rect.unit (s := S2x160000) (k0_off21 i) S1x38400.size (k0_off21_inb i hc6))).setOn Finset.univ ⊆ (zos 0).view.set := hz21
  have hz22 := zs_in 0 76800 (e74z i h74 (o22 i h50)) rfl (by decide) (k0_off22_inb i hc6)
  have hz22' : (zosM.access (Rect.unit (s := S2x160000) (k0_off22 i) S1x38400.size (k0_off22_inb i hc6))).setOn Finset.univ ⊆ (zos 0).view.set := hz22
  have hz23 := zs_in 0 115200 (e74z i h74 (o23 i h50)) rfl (by decide) (k0_off23_inb i hc6)
  have hz23' : (zosM.access (Rect.unit (s := S2x160000) (k0_off23 i) S1x38400.size (k0_off23_inb i hc6))).setOn Finset.univ ⊆ (zos 0).view.set := hz23
  have hz24 := zs_in 0 153600 (e74z i h74 (o24 i h50)) rfl (by decide) (k0_off24_inb i hc6)
  have hz24' : (zosM.access (Rect.unit (s := S2x160000) (k0_off24 i) S1x6400.size (k0_off24_inb i hc6))).setOn Finset.univ ⊆ (zos 0).view.set := hz24
  sl_exec
  sl_step
  have hs : (zos 0).view.read (Elt F) (run_74.sl.HZ_src_w5 i arg2 hc6 Z X H Y0) = yblk H X Z 24 :=
    z_src (e74z i h74 (o20 i h50)) (e74z i h74 (o21 i h50)) (e74z i h74 (o22 i h50)) (e74z i h74 (o23 i h50)) (e74z i h74 (o24 i h50)) (k0_off20_inb i hc6) (k0_off21_inb i hc6) (k0_off22_inb i hc6) (k0_off23_inb i hc6) (k0_off24_inb i hc6) ((zos 0).view.rep Y0)
      (e74 i h74 (o15 i h50)) (k0_off15_inb i hc6) ((o16 i h50).trans (by rw [h74]; rfl)) (k0_off16_inb i hc6) arg2 H _ (View.readAt_rep_full _ H _) X Z _ rfl _ rfl
  unfold run_74.sl.dma13
  ihave Ho' := (toR c (zob 24) _ ((View.read_writes_whole _ _ _).trans hs)) $$ Ho
  ihave Hs' := (toR c (zos 0) _ hs) $$ HZ_src
  iapply HK
  isplitl [Hh]; · iexact Hh
  isplitl [Hz]; · iexact Hz
  isplitl [HR_dst]; · iexact HR_dst
  isplitl [HR_src]; · iexact HR_src
  isplitl [HR]; · iexact HR
  isplitl [HZ_dst]; · iexact HZ_dst
  isplitl [Ho']; · iexact Ho'
  isplitl [Hs']; · iexact Hs'
  isplitl [HZ]; · iexact HZ
  isplitl [HZ1_dst]; · iexact HZ1_dst
  isplitl [HZ1_src]; · iexact HZ1_src
  isplitl [HZ1]; · iexact HZ1
  iexists _; iexact HW

end Runs
end Cert.KernelIdeal.Own
end
-- ==== Proof.KI.Phi.lean ====
/-
  What the resources of the pipeline's proof are, grid point by grid point.
-/
module

public import proofs.«01_k».proof.Proof.KI.RunsB

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
/-! ## The values -/

/-- What the call is given: the bias, the vector, the columns of the two matrices block by block, and what its two
    results' buffers hold before it. -/
structure Ins (F : FTy → Type) [FloatOps F] where
  B : S16x1.Idx → Elt F .f32
  Z : S4000000.Idx → Elt F .f32
  U : ℕ → S16x80000.Idx → Elt F .f32
  W : ℕ → S16x80000.Idx → Elt F .f32
  V8 : S16x4000000.Idx → Elt F .fp8e4m3
  VZ : S4000000.Idx → Elt F .f32

namespace Ins
variable (I : Ins F)

/-- The products of the rows after `n` blocks. -/
def accA : ℕ → FVec F S16x16 .f32
  | 0 => k0_pay1
  | n + 1 => k0_pay9 (I.W n) (I.U n) (accA n)
/-- The products of the rows with the vector after `n` blocks. -/
def accC : ℕ → FVec F S16x1 .f32
  | 0 => k0_pay2
  | n + 1 => k0_pay10 (I.W n) (zs50 I.Z (bk n)) (accC n)
/-- The coefficients. -/
def H : FVec F S1x16 .f32 := hRow (I.accA 50) (k0_pay12 (I.accC 50) I.B)
/-- The log determinant. -/
def LD : FVec F S1x1 .f32 := ldAt (I.accA 50) (k0_pay12 (I.accC 50) I.B) 16 (by decide)
/-- The quantised columns of block `b`. -/
def Qb (b : ℕ) : S16x80000.Idx → Elt F .fp8e4m3 := qpay (I.U b)
/-- An index within a block of columns. -/
def ixB (a : Fin 16) (n : ℕ) (h : n < 80000) : S16x80000.Idx := fun x => match x with | 0 => a | 1 => ⟨n, h⟩
def ixV (n : ℕ) (h : n < 160000) : S160000.Idx := fun x => match x with | 0 => ⟨n, h⟩
/-- The quantised array. -/
def Q : S16x4000000.Idx → Elt F .fp8e4m3 := fun x => I.Qb ((x 1).val / 80000) (ixB (x 0) ((x 1).val % 80000) (Nat.mod_lt _ (by decide)))
/-- Its region `j`. -/
def X (j : Fin 25) : S16x160000.Idx → Elt F .fp8e4m3 := (u8r j).view.read (Elt F) I.Q
/-- Block `j` of the result. -/
def Y (j : Fin 25) : S160000.Idx → Elt F .f32 := yblk I.H (I.X j) I.Z j
/-- The result. -/
def ZO : S4000000.Idx → Elt F .f32 := fun x => I.Y (rg ((x 0).val / 160000)) (ixV ((x 0).val % 160000) (Nat.mod_lt _ (by decide)))

theorem Q_at (x : S16x4000000.Idx) (b : ℕ) (y : S16x80000.Idx) (e0 : (x 0).val = 0 + 1 * (y 0).val) (e1 : (x 1).val = 80000 * b + 1 * (y 1).val) :
    I.Q x = I.Qb b y := by
  have hy : (y 1).val < 80000 := (y 1).isLt
  unfold Q
  have d : (x 1).val / 80000 = b := by omega
  have r : (x 1).val % 80000 = (y 1).val := by omega
  rw [d]
  refine congrArg (I.Qb b) (funext fun (a : Fin 2) => Fin.ext ?_)
  fin_cases a
  · show (x 0).val = (y 0).val; omega
  · exact r
theorem ZO_at (x : S4000000.Idx) (j : Fin 25) (y : S160000.Idx) (e0 : (x 0).val = 160000 * j.val + 1 * (y 0).val) : I.ZO x = I.Y j y := by
  have hy : (y 0).val < 160000 := (y 0).isLt
  unfold ZO
  have d : (x 0).val / 160000 = j.val := by omega
  have r : (x 0).val % 160000 = (y 0).val := by omega
  have hj : rg ((x 0).val / 160000) = j := Fin.ext ((rgv (by omega)).trans d)
  rw [hj]
  refine congrArg (I.Y j) (funext fun (a : Fin 1) => Fin.ext ?_)
  fin_cases a
  exact r
theorem read_Q (b : Fin 50) : (u8b b).view.read (Elt F) I.Q = I.Qb b.val :=
  funext fun y => I.Q_at ((u8b b).view.emb y) b.val y rfl rfl
theorem read_ZO (j : Fin 25) : (zob j).view.read (Elt F) I.ZO = I.Y j :=
  funext fun y => I.ZO_at ((zob j).view.emb y) j y rfl
end Ins

/-! ## Columns and entries held -/

section Held
variable (c : Dev nD)
/-- Columns `lo ≤ · < hi` of the quantised array held at `f`. -/
abbrev C8 (lo hi : ℕ) (f : S16x4000000.Idx → Elt F .fp8e4m3) : sProp 𝕄 := (u8M.view.loc (c : Thread nD τ)) ↦[cols lo hi]{fullShare} f
/-- Entries `lo ≤ · < hi` of the result held at `f`. -/
abbrev CZ (lo hi : ℕ) (f : S4000000.Idx → Elt F .f32) : sProp 𝕄 := (zoM.view.loc (c : Thread nD τ)) ↦[ents lo hi]{fullShare} f

theorem C8_split (f : S16x4000000.Idx → Elt F .fp8e4m3) {lo mid hi : ℕ} (h : lo ≤ mid) (h' : mid ≤ hi) :
    (C8 c lo hi f : sProp 𝕄) ⊣⊢ iprop(C8 c lo mid f ∗ C8 c mid hi f) := by
  have e : cols lo hi = cols lo mid ∪ cols mid hi := by ext x; rw [Finset.mem_union, mem_cols, mem_cols, mem_cols]; omega
  have d : Disjoint (cols lo mid) (cols mid hi) := by
    rw [Finset.disjoint_left]; intro x hx hx'; rw [mem_cols] at hx hx'; omega
  unfold C8; rw [e]; exact pointsTo_union d
theorem CZ_split (f : S4000000.Idx → Elt F .f32) {lo mid hi : ℕ} (h : lo ≤ mid) (h' : mid ≤ hi) :
    (CZ c lo hi f : sProp 𝕄) ⊣⊢ iprop(CZ c lo mid f ∗ CZ c mid hi f) := by
  have e : ents lo hi = ents lo mid ∪ ents mid hi := by ext x; rw [Finset.mem_union, mem_ents, mem_ents, mem_ents]; omega
  have d : Disjoint (ents lo mid) (ents mid hi) := by
    rw [Finset.disjoint_left]; intro x hx hx'; rw [mem_ents] at hx hx'; omega
  unfold CZ; rw [e]; exact pointsTo_union d

/-- A memref's elements held at the values that a buffer's contents read there are held at those contents. -/
theorem ofR {sp : Space} {s : Shape} {e : EltTy} (m : Memref sig .tc sp s e) (f : Buf (Elt F) (m.view.loc (c : Thread nD τ)))
    {X : s.Idx → Elt F e} (h : m.view.read (Elt F) f = X) : (hR c m X : sProp 𝕄) ⊢ hP c m f := by
  refine Entails.of_eq (pointsTo_congr fun i hi => ?_)
  obtain ⟨y, -, rfl⟩ := Finset.mem_map.mp hi
  have e1 := congrFun ((View.read_rep m.view X).trans h.symm) y
  exact (cast_bijective (congrArg (Elt F) m.view.elt_eq)).1 e1
end Held

section Moves
variable (c : Dev nD) (I : Ins F)

theorem take8 {k hi : ℕ} (hk : k < 50) (hh : 80000 * (k + 1) ≤ hi) (f : S16x4000000.Idx → Elt F .fp8e4m3) :
    (C8 c (80000 * k) hi f : sProp 𝕄) ⊢ iprop(hP c (u8b (bk k)) f ∗ C8 c (80000 * (k + 1)) hi f) := by
  refine (C8_split c f (mid := 80000 * (k + 1)) (by omega) hh).1.trans (sep_mono (Entails.of_eq ?_) .rfl)
  unfold hP; rw [u8b_set, bkv hk]; rfl
theorem put8 {lo k : ℕ} (hk : k < 50) (hl : lo ≤ 80000 * k) :
    (iprop(C8 c lo (80000 * k) I.Q ∗ hR c (u8b (bk k)) (I.Qb k)) : sProp 𝕄) ⊢ C8 c lo (80000 * (k + 1)) I.Q := by
  refine (sep_mono .rfl ?_).trans (C8_split c I.Q (mid := 80000 * k) hl (by omega)).2
  refine (ofR c (u8b (bk k)) I.Q ((I.read_Q _).trans (by rw [bkv hk]))).trans (Entails.of_eq ?_)
  unfold hP; rw [u8b_set, bkv hk]; rfl
theorem takeR {j hi : ℕ} (hj : j < 25) (hh : 160000 * (j + 1) ≤ hi) :
    (C8 c (160000 * j) hi I.Q : sProp 𝕄) ⊢ iprop(hR c (u8r (rg j)) (I.X (rg j)) ∗ C8 c (160000 * (j + 1)) hi I.Q) := by
  refine (C8_split c I.Q (mid := 160000 * (j + 1)) (by omega) hh).1.trans (sep_mono ?_ .rfl)
  refine (Entails.of_eq ?_).trans (toR c (u8r (rg j)) I.Q rfl)
  unfold hP; rw [u8r_set, rgv hj]; rfl
theorem putR {lo j : ℕ} (hj : j < 25) (hl : lo ≤ 160000 * j) :
    (iprop(C8 c lo (160000 * j) I.Q ∗ hR c (u8r (rg j)) (I.X (rg j))) : sProp 𝕄) ⊢ C8 c lo (160000 * (j + 1)) I.Q := by
  refine (sep_mono .rfl ?_).trans (C8_split c I.Q (mid := 160000 * j) hl (by omega)).2
  refine (ofR c (u8r (rg j)) I.Q rfl).trans (Entails.of_eq ?_)
  unfold hP; rw [u8r_set, rgv hj]; rfl
theorem takeZ {j hi : ℕ} (hj : j < 25) (hh : 160000 * (j + 1) ≤ hi) (f : S4000000.Idx → Elt F .f32) :
    (CZ c (160000 * j) hi f : sProp 𝕄) ⊢ iprop(hP c (zob (rg j)) f ∗ CZ c (160000 * (j + 1)) hi f) := by
  refine (CZ_split c f (mid := 160000 * (j + 1)) (by omega) hh).1.trans (sep_mono (Entails.of_eq ?_) .rfl)
  unfold hP; rw [zob_set, rgv hj]; rfl
theorem putZ {lo j : ℕ} (hj : j < 25) (hl : lo ≤ 160000 * j) :
    (iprop(CZ c lo (160000 * j) I.ZO ∗ hR c (zob (rg j)) (I.Y (rg j))) : sProp 𝕄) ⊢ CZ c lo (160000 * (j + 1)) I.ZO := by
  refine (sep_mono .rfl ?_).trans (CZ_split c I.ZO (mid := 160000 * j) hl (by omega)).2
  refine (ofR c (zob (rg j)) I.ZO (I.read_ZO _)).trans (Entails.of_eq ?_)
  unfold hP; rw [zob_set, rgv hj]; rfl

/-- No columns, or entries, are held for free. -/
theorem C8_none (f : S16x4000000.Idx → Elt F .fp8e4m3) (lo : ℕ) {P : sProp 𝕄} : P ⊢ iprop(P ∗ C8 c lo lo f) := by
  have e : cols lo lo = ∅ := by ext x; rw [mem_cols]; simp
  unfold C8; rw [e, pointsTo_empty]; exact BI.sep_emp.2
theorem CZ_none (f : S4000000.Idx → Elt F .f32) (lo : ℕ) {P : sProp 𝕄} : P ⊢ iprop(P ∗ CZ c lo lo f) := by
  have e : ents lo lo = ∅ := by ext x; rw [mem_ents]; simp
  unfold CZ; rw [e, pointsTo_empty]; exact BI.sep_emp.2

/-! ## The resources, point by point -/

/-- A memref's elements held at anything. -/
abbrev any {sp : Space} {s : Shape} {e : EltTy} (m : Memref sig .tc sp s e) : sProp 𝕄 := iprop(∃ f, hP c m f)
/-- A slot of the write ring at rest, of the read ring, of the result ring. -/
abbrev wFree (s : Fin 2) : sProp 𝕄 := iprop(any c (uqs s) ∗ cellP c (wS s))
abbrev rFree (s : Fin 2) : sProp 𝕄 := iprop(any c (rqs s) ∗ cellP c (rS s))
abbrev zFree (s : Fin 2) : sProp 𝕄 := iprop(any c (zos s) ∗ cellP c (zS s))
/-- Block `b` on its way out; region `j` on its way in; block `j` of the result on its way out. -/
abbrev wGo (b : ℕ) : sProp 𝕄 := wfl c (sl b) (bk b) (I.Qb b)
abbrev rGo (j : ℕ) : sProp 𝕄 := gfl c (sl j) (rg j) (I.X (rg j))
abbrev zGo (j : ℕ) : sProp 𝕄 := zfl c (sl j) (rg j) (I.Y (rg j))
/-- What the first phase leaves alone: the result, its ring, the coefficients' buffer, the random state. -/
def still : sProp 𝕄 := iprop(any c hM ∗ rFree c 1 ∗ zFree c 0 ∗ zFree c 1 ∗ CZ c 0 4000000 I.VZ ∗ ∃ r, prngReg c r)
/-- What the second phase has done with: the sums and the write ring. -/
def done : sProp 𝕄 := iprop(any c aM ∗ any c cM ∗ wFree c 0 ∗ wFree c 1 ∗ ∃ r, prngReg c r)

def Φ0 : sProp 𝕄 := iprop(any c aM ∗ any c cM ∗ wFree c 0 ∗ wFree c 1 ∗ C8 c 0 4000000 I.V8 ∗ rFree c 0 ∗ still c I)
def Φ1 : sProp 𝕄 := iprop(hR c aM (I.accA 1) ∗ hR c cM (I.accC 1) ∗ wGo c I 0 ∗ wFree c 1 ∗ C8 c 80000 4000000 I.V8 ∗ rFree c 0 ∗ still c I)
def ΦM (k : ℕ) : sProp 𝕄 :=
  iprop(hR c aM (I.accA k) ∗ hR c cM (I.accC k) ∗ wGo c I (k - 2) ∗ wGo c I (k - 1) ∗ C8 c 0 (80000 * (k - 2)) I.Q
    ∗ C8 c (80000 * k) 4000000 I.V8 ∗ rFree c 0 ∗ still c I)
def Φ50 : sProp 𝕄 :=
  iprop(hR c aM (I.accA 50) ∗ hR c cM (I.accC 50) ∗ wGo c I 48 ∗ wGo c I 49 ∗ C8 c 160000 3840000 I.Q ∗ rGo c I 0 ∗ still c I)
def Φ51 : sProp 𝕄 :=
  iprop(hR c hM I.H ∗ rGo c I 1 ∗ rFree c 0 ∗ C8 c 0 160000 I.Q ∗ C8 c 320000 4000000 I.Q ∗ zGo c I 0 ∗ zFree c 1
    ∗ CZ c 160000 4000000 I.VZ ∗ done c)
def ΦA (j : ℕ) : sProp 𝕄 :=
  iprop(hR c hM I.H ∗ rGo c I j ∗ rFree c (sl (j + 1)) ∗ C8 c 0 (160000 * j) I.Q ∗ C8 c (160000 * (j + 1)) 4000000 I.Q
    ∗ zGo c I (j - 2) ∗ zGo c I (j - 1) ∗ CZ c 0 (160000 * (j - 2)) I.ZO ∗ CZ c (160000 * j) 4000000 I.VZ ∗ done c)
def ΦE : sProp 𝕄 :=
  iprop(any c hM ∗ rFree c 0 ∗ rFree c 1 ∗ zFree c 0 ∗ zFree c 1 ∗ C8 c 0 4000000 I.Q ∗ CZ c 0 4000000 I.ZO ∗ done c)

/-- What the pipeline's proof holds before grid point `k`. -/
def Φat (k : ℕ) : sProp 𝕄 :=
  if k = 0 then Φ0 c I else if k = 1 then Φ1 c I else if k < 50 then ΦM c I k else if k = 50 then Φ50 c I
  else if k = 51 then Φ51 c I else if k < 75 then ΦA c I (k - 50) else ΦE c I

theorem Φat_0 : Φat c I 0 = Φ0 c I := rfl
theorem Φat_1 : Φat c I 1 = Φ1 c I := rfl
theorem Φat_M {k : ℕ} (h : 2 ≤ k) (h' : k < 50) : Φat c I k = ΦM c I k := by
  unfold Φat; rw [if_neg (by omega), if_neg (by omega), if_pos h']
theorem Φat_50 : Φat c I 50 = Φ50 c I := rfl
theorem Φat_51 : Φat c I 51 = Φ51 c I := rfl
theorem Φat_A {j : ℕ} (h : 2 ≤ j) (h' : j < 25) : Φat c I (50 + j) = ΦA c I j := by
  unfold Φat
  rw [if_neg (by omega), if_neg (by omega), if_neg (by omega), if_neg (by omega), if_neg (by omega), if_pos (by omega), Nat.add_sub_cancel_left]
theorem Φat_E : Φat c I 75 = ΦE c I := rfl
end Moves
end Cert.KernelIdeal.Own
end
-- ==== Proof.KI.Steps.lean ====
/-
  From one grid point to the next: the body takes the resources before a point to those after it.
-/
module

public import proofs.«01_k».proof.Proof.KI.Phi

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
section Steps
variable (c : Dev nD) (I : Ins F) (i : grid0.Coords)
  (arg1 : Memref sig .tc .vmem S16x1 .f32) (harg1 : arg1.IsWhole)
  (arg2 : Memref sig .tc .vmem S4000000 .f32) (harg2 : arg2.IsWhole)
  (arg3 : Memref sig .tc .vmem S16x80000 .f32) (harg3 : arg3.IsWhole)
  (arg4 : Memref sig .tc .vmem S16x80000 .f32) (harg4 : arg4.IsWhole)
  (arg5 : Memref sig .tc .vmem S1x1 .f32) (harg5 : arg5.IsWhole)

/-- The four inputs' windows at point `k`. -/
abbrev R4 (k : ℕ) : sProp 𝕄 := iprop(hR c arg1 I.B ∗ hR c arg2 I.Z ∗ hR c arg3 (I.U k) ∗ hR c arg4 (I.W k))

/-- From point `k` to the next. -/
theorem st_0 (k : ℕ) (hk : (i 0).val = k) (h0 : k = 0) (W0) (K : PUnit → sProp 𝕄) :
    iprop((Φat c I k ∗ R4 c I arg1 arg2 arg3 arg4 k ∗ owes (c : Thread nD τ) 0 W0)
      ∗ ((Φat c I (k + 1) ∗ R4 c I arg1 arg2 arg3 arg4 k ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  have h := fun fa fc f => run_0 c i arg1 harg1 arg2 harg2 arg3 harg3 arg4 harg4 arg5 harg5 (by omega) ((cnd1_iff i).2 (by omega))
    ((cnd2_iff i).2 (by omega)) (fun h => by have := (cnd3_iff i).1 h; omega) (fun h => by have := (cnd4_iff i).1 h; omega)
    (fun h => by have := (cnd5_iff i).1 h; omega) (fun h => by have := (cnd6_iff i).1 h; omega) I.Z (I.U k) (I.W k) fa fc f I.V8 W0 K
  rw [hk] at h
  subst h0
  rw [Φat_0, Φat_1]
  unfold Φ0 Φ1
  iintro ⟨⟨⟨⟨%fa, Ha⟩, ⟨%fc, Hc⟩, ⟨⟨%f, Hf⟩, Hs⟩, Hw1, HV, HX⟩, ⟨Hb, Hz, Hu, Hw⟩, HW⟩, HK⟩
  ihave Hv := (take8 c (k := 0) (hi := 4000000) (by omega) (by omega) I.V8) $$ HV
  icases Hv with ⟨Hv, HV⟩
  iapply (h fa fc f)
  isplitl [Hz Hu Hw Ha Hc Hf Hs Hv HW]
  · isplitl [Hz]; · iexact Hz
    isplitl [Hu]; · iexact Hu
    isplitl [Hw]; · iexact Hw
    isplitl [Ha]; · iexact Ha
    isplitl [Hc]; · iexact Hc
    isplitl [Hf]; · iexact Hf
    isplitl [Hs]; · iexact Hs
    isplitl [Hv]; · iexact Hv
    iexact HW
  iintro ⟨Hz, Hu, Hw, Ha, Hc, HF, HW⟩
  iapply HK
  isplitl [Ha Hc HF Hw1 HV HX]
  · isplitl [Ha]; · iexact Ha
    isplitl [Hc]; · iexact Hc
    isplitl [HF]; · iexact HF
    isplitl [Hw1]; · iexact Hw1
    isplitl [HV]; · iexact HV
    iexact HX
  isplitl [Hb Hz Hu Hw]
  · isplitl [Hb]; · iexact Hb
    isplitl [Hz]; · iexact Hz
    isplitl [Hu]; · iexact Hu
    iexact Hw
  iexact HW
theorem st_1 (k : ℕ) (hk : (i 0).val = k) (h1 : k = 1) (W0) (K : PUnit → sProp 𝕄) :
    iprop((Φat c I k ∗ R4 c I arg1 arg2 arg3 arg4 k ∗ owes (c : Thread nD τ) 0 W0)
      ∗ ((Φat c I (k + 1) ∗ R4 c I arg1 arg2 arg3 arg4 k ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  have h := fun f => run_1 c i arg1 harg1 arg2 harg2 arg3 harg3 arg4 harg4 arg5 harg5 (by omega)
    (fun h => by have := (cnd1_iff i).1 h; omega) ((cnd2_iff i).2 (by omega)) (fun h => by have := (cnd3_iff i).1 h; omega) (fun h => by have := (cnd4_iff i).1 h; omega) (fun h => by have := (cnd5_iff i).1 h; omega) (fun h => by have := (cnd6_iff i).1 h; omega)
    I.Z (I.U k) (I.W k) (I.accA 1) (I.accC 1) f I.V8 W0 K
  rw [hk] at h
  subst h1
  rw [Φat_1, Φat_M c I (le_refl 2) (by omega)]
  unfold Φ1 ΦM
  iintro ⟨⟨⟨Ha, Hc, HF0, ⟨⟨%f, Hf⟩, Hs⟩, HV, HX⟩, ⟨Hb, Hz, Hu, Hw⟩, HW⟩, HK⟩
  ihave Hv := (take8 c (k := 1) (hi := 4000000) (by omega) (by omega) I.V8) $$ HV
  icases Hv with ⟨Hv, HV⟩
  iapply (h f)
  isplitl [Hz Hu Hw Ha Hc Hf Hs Hv HW]
  · isplitl [Hz]; · iexact Hz
    isplitl [Hu]; · iexact Hu
    isplitl [Hw]; · iexact Hw
    isplitl [Ha]; · iexact Ha
    isplitl [Hc]; · iexact Hc
    isplitl [Hf]; · iexact Hf
    isplitl [Hs]; · iexact Hs
    isplitl [Hv]; · iexact Hv
    iexact HW
  iintro ⟨Hz, Hu, Hw, Ha, Hc, HF, HW⟩
  ihave HX := (C8_none c I.Q 0) $$ HX
  icases HX with ⟨HX, HE⟩
  iapply HK
  isplitl [Ha Hc HF0 HF HE HV HX]
  · isplitl [Ha]; · iexact Ha
    isplitl [Hc]; · iexact Hc
    isplitl [HF0]; · iexact HF0
    isplitl [HF]; · iexact HF
    isplitl [HE]; · iexact HE
    isplitl [HV]; · iexact HV
    iexact HX
  isplitl [Hb Hz Hu Hw]
  · isplitl [Hb]; · iexact Hb
    isplitl [Hz]; · iexact Hz
    isplitl [Hu]; · iexact Hu
    iexact Hw
  iexact HW
theorem st_mid (k : ℕ) (hk : (i 0).val = k) (h2 : 2 ≤ k) (h49 : k < 49) (W0) (K : PUnit → sProp 𝕄) :
    iprop((Φat c I k ∗ R4 c I arg1 arg2 arg3 arg4 k ∗ owes (c : Thread nD τ) 0 W0)
      ∗ ((Φat c I (k + 1) ∗ R4 c I arg1 arg2 arg3 arg4 k ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  have h := run_mid c i arg1 harg1 arg2 harg2 arg3 harg3 arg4 harg4 arg5 harg5 (by omega) (by omega)
    (fun h => by have := (cnd1_iff i).1 h; omega) ((cnd2_iff i).2 (by omega)) ((cnd3_iff i).2 (by omega)) (fun h => by have := (cnd4_iff i).1 h; omega) (fun h => by have := (cnd5_iff i).1 h; omega) (fun h => by have := (cnd6_iff i).1 h; omega)
    I.Z (I.U k) (I.W k) (I.accA k) (I.accC k) (I.Qb (k - 2)) I.V8 W0 K
  rw [hk] at h
  have e2 : sl k = sl (k - 2) := Fin.ext (by rw [slv, slv]; omega)
  rw [e2] at h
  have eF : wfl c (sl (k - 2)) (bk k) (qpay (I.U k)) = wGo c I k := by rw [← e2]; rfl
  have eL : (C8 c 0 (80000 * (k - 2 + 1)) I.Q : sProp 𝕄) = C8 c 0 (80000 * (k - 1)) I.Q := by rw [show k - 2 + 1 = k - 1 from by omega]
  rw [Φat_M c I h2 (by omega), Φat_M c I (k := k + 1) (by omega) (by omega)]
  unfold ΦM
  rw [Nat.add_sub_cancel, show k + 1 - 2 = k - 1 from by omega]
  iintro ⟨⟨⟨Ha, Hc, HF0, HF1, HL, HV, HX⟩, ⟨Hb, Hz, Hu, Hw⟩, HW⟩, HK⟩
  ihave Hv := (take8 c (k := k) (hi := 4000000) (by omega) (by omega) I.V8) $$ HV
  icases Hv with ⟨Hv, HV⟩
  iapply h
  isplitl [Hz Hu Hw Ha Hc HF0 Hv HW]
  · isplitl [Hz]; · iexact Hz
    isplitl [Hu]; · iexact Hu
    isplitl [Hw]; · iexact Hw
    isplitl [Ha]; · iexact Ha
    isplitl [Hc]; · iexact Hc
    isplitl [HF0]; · iexact HF0
    isplitl [Hv]; · iexact Hv
    iexact HW
  iintro ⟨Hz, Hu, Hw, Ha, Hc, Hl, HF, HW⟩
  ihave HL := (put8 c I (lo := 0) (k := k - 2) (by omega) (by omega)) $$ [HL Hl]
  · isplitl [HL]; · iexact HL
    iexact Hl
  iapply HK
  isplitl [Ha Hc HF1 HF HL HV HX]
  · isplitl [Ha]; · iexact Ha
    isplitl [Hc]; · iexact Hc
    isplitl [HF1]; · iexact HF1
    isplitl [HF]; · iapply (Entails.of_eq eF); iexact HF
    isplitl [HL]; · iapply (Entails.of_eq eL); iexact HL
    isplitl [HV]; · iexact HV
    iexact HX
  isplitl [Hb Hz Hu Hw]
  · isplitl [Hb]; · iexact Hb
    isplitl [Hz]; · iexact Hz
    isplitl [Hu]; · iexact Hu
    iexact Hw
  iexact HW
theorem st_49 (k : ℕ) (hk : (i 0).val = k) (h49 : k = 49) (W0) (K : PUnit → sProp 𝕄) :
    iprop((Φat c I k ∗ R4 c I arg1 arg2 arg3 arg4 k ∗ owes (c : Thread nD τ) 0 W0)
      ∗ ((Φat c I (k + 1) ∗ R4 c I arg1 arg2 arg3 arg4 k ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  have h := fun g => run_49 c i arg1 harg1 arg2 harg2 arg3 harg3 arg4 harg4 arg5 harg5 (by omega) (by omega)
    (fun h => by have := (cnd1_iff i).1 h; omega) ((cnd2_iff i).2 (by omega)) ((cnd3_iff i).2 (by omega)) ((cnd4_iff i).2 (by omega)) (fun h => by have := (cnd5_iff i).1 h; omega) (fun h => by have := (cnd6_iff i).1 h; omega)
    I.Z (I.U k) (I.W k) (I.accA k) (I.accC k) (I.Qb (k - 2)) I.V8 (I.X 0) g W0 K
  rw [hk] at h
  have e2 : sl k = sl (k - 2) := Fin.ext (by rw [slv, slv]; omega)
  rw [e2] at h
  have eL : (C8 c 0 (80000 * (k - 2)) I.Q : sProp 𝕄) = C8 c (160000 * 0) (80000 * (k - 2)) I.Q := rfl
  rw [Φat_M c I (k := k) (by omega) (by omega), show k + 1 = 50 from by omega, Φat_50]
  unfold ΦM Φ50
  iintro ⟨⟨⟨Ha, Hc, HF0, HF1, HL, HV, ⟨⟨%g, Hg⟩, Hgs⟩, HX⟩, ⟨Hb, Hz, Hu, Hw⟩, HW⟩, HK⟩
  ihave Hv := (take8 c (k := k) (hi := 4000000) (by omega) (by omega) I.V8) $$ HV
  icases Hv with ⟨Hv, HV⟩
  ihave HL := (Entails.of_eq eL) $$ HL
  ihave Hr := (takeR c I (j := 0) (hi := 80000 * (k - 2)) (by omega) (by omega)) $$ HL
  icases Hr with ⟨Hr, HL⟩
  iapply (h g)
  isplitl [Hz Hu Hw Ha Hc HF0 Hv Hr Hg Hgs HW]
  · isplitl [Hz]; · iexact Hz
    isplitl [Hu]; · iexact Hu
    isplitl [Hw]; · iexact Hw
    isplitl [Ha]; · iexact Ha
    isplitl [Hc]; · iexact Hc
    isplitl [HF0]; · iexact HF0
    isplitl [Hv]; · iexact Hv
    isplitl [Hr]; · iexact Hr
    isplitl [Hg]; · iexact Hg
    isplitl [Hgs]; · iexact Hgs
    iexact HW
  iintro ⟨Hz, Hu, Hw, Ha, Hc, Hl, HF, HG, HW⟩
  ihave HL := (put8 c I (lo := 160000 * (0 + 1)) (k := k - 2) (by omega) (by omega)) $$ [HL Hl]
  · isplitl [HL]; · iexact HL
    iexact Hl
  iapply HK
  isplitl [Ha Hc HF1 HF HL HG HX]
  · subst h49
    isplitl [Ha]; · iexact Ha
    isplitl [Hc]; · iexact Hc
    isplitl [HF1]; · iexact HF1
    isplitl [HF]; · iexact HF
    isplitl [HL]; · iexact HL
    isplitl [HG]; · iexact HG
    iexact HX
  isplitl [Hb Hz Hu Hw]
  · isplitl [Hb]; · iexact Hb
    isplitl [Hz]; · iexact Hz
    isplitl [Hu]; · iexact Hu
    iexact Hw
  iexact HW
theorem st_50 (j : ℕ) (hk : (i 0).val = 50 + j) (h0 : j = 0) (W0) (K : PUnit → sProp 𝕄) :
    iprop((Φat c I (50 + j) ∗ R4 c I arg1 arg2 arg3 arg4 (50 + j) ∗ any c arg5 ∗ owes (c : Thread nD τ) 0 W0)
      ∗ ((Φat c I (50 + j + 1) ∗ R4 c I arg1 arg2 arg3 arg4 (50 + j) ∗ hR c arg5 I.LD ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  have h := fun g fo fh f5 => run_50 c i arg1 harg1 arg2 harg2 arg3 harg3 arg4 harg4 arg5 harg5 (by omega) (by omega)
    (fun h => by have := (cnd1_iff i).1 h; omega) (fun h => by have := (cnd2_iff i).1 h; omega) (fun h => by have := (cnd4_iff i).1 h; omega) ((cnd5_iff i).2 (by omega)) ((cnd6_iff i).2 (by omega)) ((cnd7_iff i (by omega)).2 (by omega)) (fun h => by have := (cnd8_iff i (by omega)).1 h; omega) (fun h => by have := (cnd9_iff i (by omega)).1 h; omega)
    I.Z (I.X (rg 0)) I.VZ (I.X (rg 1)) g fo fh (I.accA 50) (I.accC 50) I.B f5 (I.Qb 48) (I.Qb 49) W0 K
  rw [hk] at h
  subst h0
  rw [show 50 + 0 = 50 from rfl, Φat_50, Φat_51]
  unfold Φ50 Φ51 still done
  iintro ⟨⟨⟨Ha, Hc, HF0, HF1, HL, HG, ⟨⟨%fh, Hh⟩, ⟨⟨%g, Hg⟩, Hgs⟩, ⟨⟨%fo, Hzo⟩, Hzs⟩, Hz1, HV, HX⟩⟩, ⟨Hb, Hz, Hu, Hw⟩, ⟨%f5, H5⟩, HW⟩, HK⟩
  ihave Hv := (takeZ c (j := 0) (hi := 4000000) (by omega) (by omega) I.VZ) $$ HV
  icases Hv with ⟨Hv, HV⟩
  ihave Hr := (takeR c I (j := 1) (hi := 3840000) (by omega) (by omega)) $$ HL
  icases Hr with ⟨Hr, HL⟩
  iapply (h g fo fh f5)
  isplitl [Hb H5 Ha Hc HF0 HF1 Hh Hz HG Hv Hr Hg Hgs Hzo Hzs HW]
  · isplitl [Hb]; · iexact Hb
    isplitl [H5]; · iexact H5
    isplitl [Ha]; · iexact Ha
    isplitl [Hc]; · iexact Hc
    isplitl [HF0]; · iexact HF0
    isplitl [HF1]; · iexact HF1
    isplitl [Hh]; · iexact Hh
    isplitl [Hz]; · iexact Hz
    isplitl [HG]; · iexact HG
    isplitl [Hv]; · iexact Hv
    isplitl [Hr]; · iexact Hr
    isplitl [Hg]; · iexact Hg
    isplitl [Hgs]; · iexact Hgs
    isplitl [Hzo]; · iexact Hzo
    isplitl [Hzs]; · iexact Hzs
    iexact HW
  iintro ⟨Hb, H5, Ha, Hc, H48, H49, Hq0, Hq1, Hw0, Hw1, Hh, Hz, Hg, Hr, Hgs, HZ, HG, HW⟩
  ihave HL := (put8 c I (lo := 160000 * (1 + 1)) (k := 48) (by omega) (by omega)) $$ [HL H48]
  · isplitl [HL]; · iexact HL
    iexact H48
  ihave HL := (put8 c I (lo := 160000 * (1 + 1)) (k := 48 + 1) (by omega) (by omega)) $$ [HL H49]
  · isplitl [HL]; · iexact HL
    iexact H49
  ihave HX := (C8_none c I.Q (160000 * 0)) $$ HX
  icases HX with ⟨HX, HE⟩
  ihave HE := (putR c I (lo := 160000 * 0) (j := 0) (by omega) (by omega)) $$ [HE Hr]
  · isplitl [HE]; · iexact HE
    iexact Hr
  iapply HK
  isplitl [Hh HG Hg Hgs HE HL HZ Hz1 HV Ha Hc Hq0 Hw0 Hq1 Hw1 HX]
  · isplitl [Hh]; · iexact Hh
    isplitl [HG]; · iexact HG
    isplitl [Hg Hgs]
    · isplitl [Hg]; · iexists _; iexact Hg
      iexact Hgs
    isplitl [HE]; · iexact HE
    isplitl [HL]; · iexact HL
    isplitl [HZ]; · iexact HZ
    isplitl [Hz1]; · iexact Hz1
    isplitl [HV]; · iexact HV
    isplitl [Ha]; · iexists _; iexact Ha
    isplitl [Hc]; · iexists _; iexact Hc
    isplitl [Hq0 Hw0]
    · isplitl [Hq0]; · iexists _; iexact Hq0
      iexact Hw0
    isplitl [Hq1 Hw1]
    · isplitl [Hq1]; · iexists _; iexact Hq1
      iexact Hw1
    iexact HX
  isplitl [Hb Hz Hu Hw]
  · isplitl [Hb]; · iexact Hb
    isplitl [Hz]; · iexact Hz
    isplitl [Hu]; · iexact Hu
    iexact Hw
  isplitl [H5]; · iexact H5
  iexact HW
theorem st_51 (j : ℕ) (hk : (i 0).val = 50 + j) (h1 : j = 1) (W0) (K : PUnit → sProp 𝕄) :
    iprop((Φat c I (50 + j) ∗ R4 c I arg1 arg2 arg3 arg4 (50 + j) ∗ owes (c : Thread nD τ) 0 W0)
      ∗ ((Φat c I (50 + j + 1) ∗ R4 c I arg1 arg2 arg3 arg4 (50 + j) ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  have h := fun g fo => run_51 c i arg1 harg1 arg2 harg2 arg3 harg3 arg4 harg4 arg5 harg5 (by omega) (by omega)
    (fun h => by have := (cnd1_iff i).1 h; omega) (fun h => by have := (cnd2_iff i).1 h; omega) (fun h => by have := (cnd4_iff i).1 h; omega) (fun h => by have := (cnd5_iff i).1 h; omega) ((cnd6_iff i).2 (by omega)) ((cnd7_iff i (by omega)).2 (by omega)) (fun h => by have := (cnd8_iff i (by omega)).1 h; omega) (fun h => by have := (cnd9_iff i (by omega)).1 h; omega)
    I.Z (I.X (rg 1)) I.VZ (I.X (rg 2)) g fo I.H W0 K
  rw [hk] at h
  subst h1
  rw [show 50 + 1 = 51 from rfl, Φat_51, show 51 + 1 = 50 + 2 from rfl, Φat_A c I (le_refl 2) (by omega)]
  unfold Φ51 ΦA
  iintro ⟨⟨⟨Hh, HG, ⟨⟨%g, Hg⟩, Hgs⟩, HA, HL, HZ, ⟨⟨%fo, Hzo⟩, Hzs⟩, HV, HX⟩, ⟨Hb, Hz, Hu, Hw⟩, HW⟩, HK⟩
  ihave Hv := (takeZ c (j := 1) (hi := 4000000) (by omega) (by omega) I.VZ) $$ HV
  icases Hv with ⟨Hv, HV⟩
  ihave Hr := (takeR c I (j := 2) (hi := 4000000) (by omega) (by omega)) $$ HL
  icases Hr with ⟨Hr, HL⟩
  iapply (h g fo)
  isplitl [Hh Hz HG Hv Hr Hg Hgs Hzo Hzs HW]
  · isplitl [Hh]; · iexact Hh
    isplitl [Hz]; · iexact Hz
    isplitl [HG]; · iexact HG
    isplitl [Hv]; · iexact Hv
    isplitl [Hr]; · iexact Hr
    isplitl [Hg]; · iexact Hg
    isplitl [Hgs]; · iexact Hgs
    isplitl [Hzo]; · iexact Hzo
    isplitl [Hzs]; · iexact Hzs
    iexact HW
  iintro ⟨Hh, Hz, Hg, Hr, Hgs, HZ1, HG, HW⟩
  ihave HA := (putR c I (lo := 0) (j := 1) (by omega) (by omega)) $$ [HA Hr]
  · isplitl [HA]; · iexact HA
    iexact Hr
  ihave HX := (CZ_none c I.ZO (160000 * (2 - 2))) $$ HX
  icases HX with ⟨HX, HE⟩
  iapply HK
  isplitl [Hh HG Hg Hgs HA HL HZ HZ1 HE HV HX]
  · isplitl [Hh]; · iexact Hh
    isplitl [HG]; · iexact HG
    isplitl [Hg Hgs]
    · isplitl [Hg]; · iexists _; iexact Hg
      iexact Hgs
    isplitl [HA]; · iexact HA
    isplitl [HL]; · iexact HL
    isplitl [HZ]; · iexact HZ
    isplitl [HZ1]; · iexact HZ1
    isplitl [HE]; · iexact HE
    isplitl [HV]; · iexact HV
    iexact HX
  isplitl [Hb Hz Hu Hw]
  · isplitl [Hb]; · iexact Hb
    isplitl [Hz]; · iexact Hz
    isplitl [Hu]; · iexact Hu
    iexact Hw
  iexact HW
theorem st_ap (j : ℕ) (hk : (i 0).val = 50 + j) (h2 : 2 ≤ j) (h24 : j < 24) (W0) (K : PUnit → sProp 𝕄) :
    iprop((Φat c I (50 + j) ∗ R4 c I arg1 arg2 arg3 arg4 (50 + j) ∗ owes (c : Thread nD τ) 0 W0)
      ∗ ((Φat c I (50 + j + 1) ∗ R4 c I arg1 arg2 arg3 arg4 (50 + j) ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  have h := fun g => run_ap c i arg1 harg1 arg2 harg2 arg3 harg3 arg4 harg4 arg5 harg5 (by omega) (by omega) (by omega)
    (fun h => by have := (cnd1_iff i).1 h; omega) (fun h => by have := (cnd2_iff i).1 h; omega) (fun h => by have := (cnd4_iff i).1 h; omega) (fun h => by have := (cnd5_iff i).1 h; omega) ((cnd6_iff i).2 (by omega)) ((cnd7_iff i (by omega)).2 (by omega)) ((cnd8_iff i (by omega)).2 (by omega)) (fun h => by have := (cnd9_iff i (by omega)).1 h; omega)
    I.Z (I.X (rg j)) I.VZ (I.X (rg (j + 1))) g I.H (I.Y (rg (j - 2))) W0 K
  rw [hk] at h
  have s0 : sl (50 + j) = sl j := Fin.ext (by rw [slv, slv]; omega)
  have s1 : sl (50 + j + 1) = sl (j + 1) := Fin.ext (by rw [slv, slv]; omega)
  have s2 : sl (j + 2) = sl j := Fin.ext (by rw [slv, slv]; omega)
  have s3 : sl j = sl (j - 2) := Fin.ext (by rw [slv, slv]; omega)
  rw [show 50 + j - 50 = j from by omega, show 50 + j - 49 = j + 1 from by omega, s0, s1] at h
  rw [show 50 + j - 52 = j - 2 from by omega] at h
  have h' := h
  rw [show (zfl c (sl j) (rg (j - 2)) (I.Y (rg (j - 2))) : sProp 𝕄) = zGo c I (j - 2) from by rw [s3]] at h'
  clear h
  have h := h'
  have eZ : (zfl c (sl j) (rg j) (yblk I.H (I.X (rg j)) I.Z (rg j)) : sProp 𝕄) = zGo c I j := rfl
  have eY : (CZ c 0 (160000 * (j - 2 + 1)) I.ZO : sProp 𝕄) = CZ c 0 (160000 * (j - 1)) I.ZO := by rw [show j - 2 + 1 = j - 1 from by omega]
  rw [Φat_A c I h2 (by omega), Nat.add_assoc 50 j 1, Φat_A c I (j := j + 1) (by omega) (by omega)]
  unfold ΦA
  rw [Nat.add_sub_cancel, show j + 1 - 2 = j - 1 from by omega, s2]
  iintro ⟨⟨⟨Hh, HG, ⟨⟨%g, Hg⟩, Hgs⟩, HA, HL, HZ0, HZ1, HY, HV, HX⟩, ⟨Hb, Hz, Hu, Hw⟩, HW⟩, HK⟩
  ihave Hv := (takeZ c (j := j) (hi := 4000000) (by omega) (by omega) I.VZ) $$ HV
  icases Hv with ⟨Hv, HV⟩
  ihave Hr := (takeR c I (j := j + 1) (hi := 4000000) (by omega) (by omega)) $$ HL
  icases Hr with ⟨Hr, HL⟩
  iapply (h g)
  isplitl [Hh Hz HG Hv Hr Hg Hgs HZ0 HW]
  · isplitl [Hh]; · iexact Hh
    isplitl [Hz]; · iexact Hz
    isplitl [HG]; · iexact HG
    isplitl [Hv]; · iexact Hv
    isplitl [Hr]; · iexact Hr
    isplitl [Hg]; · iexact Hg
    isplitl [Hgs]; · iexact Hgs
    isplitl [HZ0]; · iexact HZ0
    iexact HW
  iintro ⟨Hh, Hz, Hg, Hr, Hgs, Hl, HZ, HG, HW⟩
  ihave HA := (putR c I (lo := 0) (j := j) (by omega) (by omega)) $$ [HA Hr]
  · isplitl [HA]; · iexact HA
    iexact Hr
  ihave HY := (putZ c I (lo := 0) (j := j - 2) (by omega) (by omega)) $$ [HY Hl]
  · isplitl [HY]; · iexact HY
    iexact Hl
  iapply HK
  isplitl [Hh HG Hg Hgs HA HL HZ1 HZ HY HV HX]
  · isplitl [Hh]; · iexact Hh
    isplitl [HG]; · iexact HG
    isplitl [Hg Hgs]
    · isplitl [Hg]; · iexists _; iexact Hg
      iexact Hgs
    isplitl [HA]; · iexact HA
    isplitl [HL]; · iexact HL
    isplitl [HZ1]; · iexact HZ1
    isplitl [HZ]; · iapply (Entails.of_eq eZ); iexact HZ
    isplitl [HY]; · iapply (Entails.of_eq eY); iexact HY
    isplitl [HV]; · iexact HV
    iexact HX
  isplitl [Hb Hz Hu Hw]
  · isplitl [Hb]; · iexact Hb
    isplitl [Hz]; · iexact Hz
    isplitl [Hu]; · iexact Hu
    iexact Hw
  iexact HW
theorem st_74 (j : ℕ) (hk : (i 0).val = 50 + j) (h24 : j = 24) (W0) (K : PUnit → sProp 𝕄) :
    iprop((Φat c I (50 + j) ∗ R4 c I arg1 arg2 arg3 arg4 (50 + j) ∗ owes (c : Thread nD τ) 0 W0)
      ∗ ((Φat c I (50 + j + 1) ∗ R4 c I arg1 arg2 arg3 arg4 (50 + j) ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  have h := run_74 c i arg1 harg1 arg2 harg2 arg3 harg3 arg4 harg4 arg5 harg5 (by omega) (by omega)
    (fun h => by have := (cnd1_iff i).1 h; omega) (fun h => by have := (cnd2_iff i).1 h; omega) (fun h => by have := (cnd4_iff i).1 h; omega) (fun h => by have := (cnd5_iff i).1 h; omega) ((cnd6_iff i).2 (by omega)) (fun h => by have := (cnd7_iff i (by omega)).1 h; omega) ((cnd8_iff i (by omega)).2 (by omega)) ((cnd9_iff i (by omega)).2 (by omega))
    I.Z (I.X 24) I.VZ I.H (I.Y (rg 22)) (I.Y 23) W0 K
  rw [hk] at h
  subst h24
  rw [Φat_A c I (j := 24) (by omega) (by omega), show 50 + 24 + 1 = 75 from rfl, Φat_E]
  unfold ΦA ΦE
  iintro ⟨⟨⟨Hh, HG, Hg1, HA, HL, HZ0, HZ1, HY, HV, HX⟩, ⟨Hb, Hz, Hu, Hw⟩, HW⟩, HK⟩
  ihave Hv := (takeZ c (j := 24) (hi := 4000000) (by omega) (by omega) I.VZ) $$ HV
  icases Hv with ⟨Hv, HV⟩
  iapply h
  isplitl [Hh Hz HG Hv HZ0 HZ1 HW]
  · isplitl [Hh]; · iexact Hh
    isplitl [Hz]; · iexact Hz
    isplitl [HG]; · iexact HG
    isplitl [Hv]; · iexact Hv
    isplitl [HZ0]; · iexact HZ0
    isplitl [HZ1]; · iexact HZ1
    iexact HW
  iintro ⟨Hh, Hz, Hg, Hr, Hgs, Hl22, Hl24, Hz0, Hzs0, Hl23, Hz1, Hzs1, HW⟩
  ihave HA := (putR c I (lo := 0) (j := 24) (by omega) (by omega)) $$ [HA Hr]
  · isplitl [HA]; · iexact HA
    iexact Hr
  ihave HY := (putZ c I (lo := 0) (j := 22) (by omega) (by omega)) $$ [HY Hl22]
  · isplitl [HY]; · iexact HY
    iexact Hl22
  ihave HY := (putZ c I (lo := 0) (j := 22 + 1) (by omega) (by omega)) $$ [HY Hl23]
  · isplitl [HY]; · iexact HY
    iexact Hl23
  ihave HY := (putZ c I (lo := 0) (j := 22 + 1 + 1) (by omega) (by omega)) $$ [HY Hl24]
  · isplitl [HY]; · iexact HY
    iexact Hl24
  iapply HK
  isplitl [Hh Hg Hgs Hg1 Hz0 Hzs0 Hz1 Hzs1 HA HY HX]
  · isplitl [Hh]; · iexists _; iexact Hh
    isplitl [Hg Hgs]
    · isplitl [Hg]; · iexists _; iexact Hg
      iexact Hgs
    isplitl [Hg1]; · iexact Hg1
    isplitl [Hz0 Hzs0]
    · isplitl [Hz0]; · iexists _; iexact Hz0
      iexact Hzs0
    isplitl [Hz1 Hzs1]
    · isplitl [Hz1]; · iexists _; iexact Hz1
      iexact Hzs1
    isplitl [HA]; · iexact HA
    isplitl [HY]; · iexact HY
    iexact HX
  isplitl [Hb Hz Hu Hw]
  · isplitl [Hb]; · iexact Hb
    isplitl [Hz]; · iexact Hz
    isplitl [Hu]; · iexact Hu
    iexact Hw
  iexact HW
end Steps
end Cert.KernelIdeal.Own
end
-- ==== Proof.KI.Main.lean ====
/-
  The kernel's run: the pipeline's proof data, the body at every grid point, and the launch.
-/
module

public import proofs.«01_k».proof.Proof.KI.Steps

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
open Idealize.ShloMosaic.Pipeline (Dat Cfg Window BodyObligation cellOf)

/-! ## One grid point -/

section Step
variable (c : Dev nD) (I : Ins F) (i : grid0.Coords)
  (arg1 : Memref sig .tc .vmem S16x1 .f32) (harg1 : arg1.IsWhole)
  (arg2 : Memref sig .tc .vmem S4000000 .f32) (harg2 : arg2.IsWhole)
  (arg3 : Memref sig .tc .vmem S16x80000 .f32) (harg3 : arg3.IsWhole)
  (arg4 : Memref sig .tc .vmem S16x80000 .f32) (harg4 : arg4.IsWhole)
  (arg5 : Memref sig .tc .vmem S1x1 .f32) (harg5 : arg5.IsWhole)

/-- The log determinant's window before point `k`: written at point 50, anything before. -/
def E5 (k : ℕ) : sProp 𝕄 := if k ≤ 50 then any c arg5 else hR c arg5 I.LD

theorem E5_lo {k : ℕ} (h : k ≤ 50) : (E5 c I arg5 k : sProp 𝕄) = any c arg5 := if_pos h
theorem E5_hi {k : ℕ} (h : 50 < k) : (E5 c I arg5 k : sProp 𝕄) = hR c arg5 I.LD := if_neg (by omega)

/-- A point that leaves the log determinant's window alone. -/
theorem aside {P P' R W : sProp 𝕄} {W' : sProp 𝕄} {G : sProp 𝕄} (E E' : sProp 𝕄) (hE : E = E') (K : PUnit → sProp 𝕄)
    (h : ∀ K : PUnit → sProp 𝕄, iprop((P ∗ R ∗ W) ∗ ((P' ∗ R ∗ W') -∗ K ⟨⟩)) ⊢ wp frame (wpE (defs₀ (F := F)) 𝒱₀ (c : Thread nD τ) none) Set.univ
      (body i arg1 harg1 arg2 harg2 arg3 harg3 arg4 harg4 arg5 harg5) K) :
    iprop((P ∗ R ∗ E ∗ W) ∗ ((P' ∗ R ∗ E' ∗ W') -∗ K ⟨⟩)) ⊢ wp frame (wpE (defs₀ (F := F)) 𝒱₀ (c : Thread nD τ) none) Set.univ
      (body i arg1 harg1 arg2 harg2 arg3 harg3 arg4 harg4 arg5 harg5) K := by
  subst hE
  iintro ⟨⟨HP, HR, HE, HW⟩, HK⟩
  iapply (h K)
  isplitl [HP HR HW]
  · isplitl [HP]; · iexact HP
    isplitl [HR]; · iexact HR
    iexact HW
  iintro ⟨HP, HR, HW⟩
  iapply HK
  isplitl [HP]; · iexact HP
  isplitl [HR]; · iexact HR
  isplitl [HE]; · iexact HE
  iexact HW

theorem step (k : ℕ) (hk : (i 0).val = k) (h75 : k < 75) (W0) (K : PUnit → sProp 𝕄) :
    iprop((Φat c I k ∗ R4 c I arg1 arg2 arg3 arg4 k ∗ E5 c I arg5 k ∗ owes (c : Thread nD τ) 0 W0)
      ∗ ((Φat c I (k + 1) ∗ R4 c I arg1 arg2 arg3 arg4 k ∗ E5 c I arg5 (k + 1) ∗ ∃ W', owes (c : Thread nD τ) 0 W') -∗ K ⟨⟩))
      ⊢ wp frame (wpE (defs₀ (F := F)) 𝒱₀ (c : Thread nD τ) none) Set.univ (body i arg1 harg1 arg2 harg2 arg3 harg3 arg4 harg4 arg5 harg5) K := by
  by_cases h50 : k < 50
  · refine aside (G := BI.emp) c i arg1 harg1 arg2 harg2 arg3 harg3 arg4 harg4 arg5 harg5 _ _ (by rw [E5_lo c I arg5 (by omega), E5_lo c I arg5 (by omega)]) K fun K => ?_
    by_cases h0 : k = 0
    · exact st_0 c I i arg1 harg1 arg2 harg2 arg3 harg3 arg4 harg4 arg5 harg5 k hk h0 W0 K
    by_cases h1 : k = 1
    · exact st_1 c I i arg1 harg1 arg2 harg2 arg3 harg3 arg4 harg4 arg5 harg5 k hk h1 W0 K
    by_cases h49 : k = 49
    · exact st_49 c I i arg1 harg1 arg2 harg2 arg3 harg3 arg4 harg4 arg5 harg5 k hk h49 W0 K
    exact st_mid c I i arg1 harg1 arg2 harg2 arg3 harg3 arg4 harg4 arg5 harg5 k hk (by omega) (by omega) W0 K
  obtain ⟨j, rfl⟩ : ∃ j, k = 50 + j := ⟨k - 50, by omega⟩
  by_cases h0 : j = 0
  · rw [E5_lo c I arg5 (by omega), E5_hi c I arg5 (by omega)]
    exact st_50 c I i arg1 harg1 arg2 harg2 arg3 harg3 arg4 harg4 arg5 harg5 j hk h0 W0 K
  refine aside (G := BI.emp) c i arg1 harg1 arg2 harg2 arg3 harg3 arg4 harg4 arg5 harg5 _ _ (by rw [E5_hi c I arg5 (by omega), E5_hi c I arg5 (by omega)]) K fun K => ?_
  by_cases h1 : j = 1
  · exact st_51 c I i arg1 harg1 arg2 harg2 arg3 harg3 arg4 harg4 arg5 harg5 j hk h1 W0 K
  by_cases h24 : j = 24
  · exact st_74 c I i arg1 harg1 arg2 harg2 arg3 harg3 arg4 harg4 arg5 harg5 j hk h24 W0 K
  exact st_ap c I i arg1 harg1 arg2 harg2 arg3 harg3 arg4 harg4 arg5 harg5 j hk (by omega) (by omega) W0 K
end Step

/-! ## The pipeline's proof data -/

variable (m : (ℓ : Loc nD τ sig) → Buf (Elt F) ℓ) (ρ : Dev nD → PrngReg)

/-- Grid point `k`. -/
abbrev tp (k : ℕ) : Fin cfg0.N := ⟨k % 75, Nat.mod_lt _ (by decide)⟩
theorem tp_val (t : Fin cfg0.N) : tp t.val = t := Fin.ext (Nat.mod_eq_of_lt (lt_of_lt_of_eq t.isLt N_0))

def ins (c : Dev nD) : Ins F where
  B := iblk m c 0 (tp 0)
  Z := iblk m c 1 (tp 0)
  U k := iblk m c 2 (tp k)
  W k := iblk m c 3 (tp k)
  V8 := m ((c : Thread nD τ).loc main_v0_2)
  VZ := m ((c : Thread nD τ).loc main_v0_1)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (ins m c).LD
  Φ t := Φat c (ins m c) t.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = (ins m c).LD := by dsimp only [dats]

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans
    (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans
    (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans
    (by unfold Dat.fetched Dat.blockOf iblk; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rfl) t d).trans
    (by unfold Dat.fetched Dat.blockOf iblk; rfl)

theorem iblk0_const (c : Dev nD) (t : Fin cfg0.N) : iblk m c 0 t = (ins m c).B := rfl
theorem iblk1_const (c : Dev nD) (t : Fin cfg0.N) : iblk m c 1 t = (ins m c).Z := rfl
theorem iblk2_at (c : Dev nD) (t : Fin cfg0.N) : iblk m c 2 t = (ins m c).U t.val := by dsimp only [ins]; rw [tp_val]
theorem iblk3_at (c : Dev nD) (t : Fin cfg0.N) : iblk m c 3 t = (ins m c).W t.val := by dsimp only [ins]; rw [tp_val]

theorem coords_val : ∀ t : Fin cfg0.N, (cfg0.grid.coords t 0).val = t.val := by decide +kernel
theorem idle_iff : ∀ t : Fin cfg0.N, cfg0.idle 4 (cfg0.grid.coords t) = !decide (t.val = 50) := by decide +kernel
theorem flush_at (t : Fin cfg0.N) : (cfg0.win 4).flush t = decide (t.val = 74) := by
  have h := flush0_4 t
  have h2 : t.val < 75 := lt_of_lt_of_eq t.isLt N_0
  rw [Bool.eq_iff_iff, h, decide_eq_true_iff]; omega

/-- What the log determinant's window holds at a point. -/
theorem before_w4 (c : Dev nD) : ∀ (k : ℕ) (t : Fin cfg0.N), t.val = k → ∀ d, (dats m 0 c).before 4 t d = if k ≤ 50 then d else (ins m c).LD
  | 0, t, ht, d => by
    rw [if_pos (by omega)]; unfold Dat.before
    rw [if_neg (by rw [show (cfg0.win 4).fetch t = false from rfl]; exact Bool.false_ne_true), if_pos ht]
  | k + 1, t, ht, d => by
    have h2 : t.val < 75 := lt_of_lt_of_eq t.isLt N_0
    rw [(dats m 0 c).before_of_pos 4 t (by omega) rfl d]
    rw [flush_at, if_neg (by rw [decide_eq_true_iff]; dsimp only; omega)]
    unfold Dat.left
    rw [idle_iff]
    dsimp only
    by_cases h50 : k = 50
    · rw [decide_eq_true (show t.val - 1 = 50 by omega)]
      rw [if_neg (by omega)]
      exact (show (dats m 0 c).kept 4 _ d = (dats m 0 c).after 4 _ from rfl).trans (after_w4 m c _)
    · rw [decide_eq_false (show ¬ t.val - 1 = 50 by omega)]
      refine (before_w4 c k ⟨t.val - 1, _⟩ (by show t.val - 1 = k; omega) d).trans ?_
      by_cases hk : k ≤ 50
      · rw [if_pos hk, if_pos (by omega)]
      · rw [if_neg hk, if_neg (by omega)]

/-! ## The body obligation -/

theorem own_in (c : Dev nD) {sp : Space} {s : Shape} {e : EltTy} (M : Memref sig .tc sp s e) (X : s.Idx → Elt F e) {X' : s.Idx → Elt F e} (e : X = X') :
    (owns (c : Thread nD τ) M fullShare X : sProp 𝕄) ⊢ hR c M X' := by
  subst e
  unfold owns
  iintro ⟨%f, %h, H⟩
  iapply (toR c M f h); iexact H
theorem own_out (c : Dev nD) {sp : Space} {s : Shape} {e : EltTy} (M : Memref sig .tc sp s e) (X : s.Idx → Elt F e) {X' : s.Idx → Elt F e} (e : X = X') :
    (hR c M X' : sProp 𝕄) ⊢ owns (c : Thread nD τ) M fullShare X := by
  subst e
  unfold owns
  iintro H
  iexists _; isplitr; · ipureintro; exact View.read_rep _ _
  iexact H
theorem any_out (c : Dev nD) {sp : Space} {s : Shape} {e : EltTy} (M : Memref sig .tc sp s e) :
    (any (F := F) c M : sProp 𝕄) ⊢ iprop(∃ X, owns (c : Thread nD τ) M fullShare X) := by
  unfold owns
  iintro ⟨%f, H⟩
  iexists (M.view.read (Elt F) f); iexists f
  isplitr; · ipureintro; rfl
  iexact H

/-- The log determinant's window into a point and out of it. -/
theorem five_in (c : Dev nD) (t : Fin cfg0.N) :
    (iprop(∃ d, owns (c : Thread nD τ) (st0_4 t) fullShare ((dats m 0 c).before 4 t d)) : sProp 𝕄) ⊢ E5 c (ins m c) (st0_4 t) t.val := by
  iintro ⟨%d, H⟩
  rw [before_w4 m c t.val t rfl d]
  by_cases h : t.val ≤ 50
  · rw [if_pos h, E5_lo c _ _ h]
    ihave H := (own_in c (st0_4 t) d rfl) $$ H
    iexists _; iexact H
  · rw [if_neg h, E5_hi c _ _ (by omega)]
    iapply (own_in c (st0_4 t) _ rfl); iexact H
theorem five_back (c : Dev nD) (t : Fin cfg0.N) (h : t.val ≠ 50) :
    (E5 c (ins m c) (st0_4 t) (t.val + 1) : sProp 𝕄) ⊢ iprop(∃ d, owns (c : Thread nD τ) (st0_4 t) fullShare ((dats m 0 c).before 4 t d)) := by
  by_cases h' : t.val ≤ 50
  · rw [E5_lo c _ _ (by omega)]
    refine (any_out c (st0_4 t)).trans ?_
    iintro ⟨%X, H⟩
    iexists X
    rw [before_w4 m c t.val t rfl X, if_pos h']
    iexact H
  · rw [E5_hi c _ _ (by omega)]
    refine (own_out c (st0_4 t) _ rfl).trans ?_
    iintro H
    iexists (ins m c).LD
    rw [before_w4 m c t.val t rfl _, if_neg h']
    iexact H
theorem five_out (c : Dev nD) (t : Fin cfg0.N) (h : 50 ≤ t.val) :
    (E5 c (ins m c) (st0_4 t) (t.val + 1) : sProp 𝕄) ⊢ owns (c : Thread nD τ) (st0_4 t) fullShare ((dats m 0 c).after 4 t) := by
  rw [E5_hi c _ _ (by omega), after_w4]
  exact own_out c (st0_4 t) _ rfl
theorem five_leave (c : Dev nD) (t : Fin cfg0.N) :
    (E5 c (ins m c) (st0_4 t) (t.val + 1) : sProp 𝕄) ⊢ (match cfg0.idle 4 (cfg0.grid.coords t) with
      | true => match (cfg0.win 4).flush t with
        | false => iprop(∃ d, owns (c : Thread nD τ) (st0_4 t) fullShare ((dats m 0 c).before 4 t d))
        | true => owns (c : Thread nD τ) (st0_4 t) fullShare ((dats m 0 c).after 4 t)
      | false => owns (c : Thread nD τ) (st0_4 t) fullShare ((dats m 0 c).after 4 t)) := by
  rw [idle_iff, flush_at]
  by_cases h50 : t.val = 50
  · rw [decide_eq_true h50]; exact five_out m c t (by omega)
  · rw [decide_eq_false h50]
    by_cases h74 : t.val = 74
    · rw [decide_eq_true h74]; exact five_out m c t (by omega)
    · rw [decide_eq_false h74]; exact five_back m c t h50

theorem defs_tc : (defs₀ (F := F)) .tc cfg0.body
    = fun a => body (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) := rfl
theorem prog_eq (t : Fin cfg0.N) : (defs₀ (F := F)) .tc cfg0.body (cfg0.bodyArgs t (cfg0.slots t))
    = body (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4)) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3]
  rw [show (dats m 0 c).Φ t.castSucc = Φat c (ins m c) t.val from rfl, show (dats m 0 c).Φ t.succ = Φat c (ins m c) (t.val + 1) from rfl]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩, H4⟩
  ihave H0 := (own_in c (st0_0 t) (iblk m c 0 t) (iblk0_const m c t)) $$ H0
  ihave H1 := (own_in c (st0_1 t) (iblk m c 1 t) (iblk1_const m c t)) $$ H1
  ihave H2 := (own_in c (st0_2 t) (iblk m c 2 t) (iblk2_at m c t)) $$ H2
  ihave H3 := (own_in c (st0_3 t) (iblk m c 3 t) (iblk3_at m c t)) $$ H3
  ihave H4 := (five_in m c t) $$ H4
  sl_rw [prog_eq t]
  iapply (step c (ins m c) (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        t.val (coords_val t) (lt_of_lt_of_eq t.isLt N_0) W)
  isplitl [HΦ H0 H1 H2 H3 H4 HW]
  · isplitl [HΦ]; · iexact HΦ
    isplitl [H0 H1 H2 H3]
    · isplitl [H0]; · iexact H0
      isplitl [H1]; · iexact H1
      isplitl [H2]; · iexact H2
      iexact H3
    isplitl [H4]; · iexact H4
    iexact HW
  · iintro ⟨HΦ, ⟨H0, H1, H2, H3⟩, H4, ⟨%W', HW⟩⟩
    isplitl [HΦ]; · iexact HΦ
    isplitl [HW]
    · iexists W'; isplitr; · ipureintro; exact fun _ _ => Or.inl trivial
      iexact HW
    isplitl [H0]; · iapply (own_out c (st0_0 t) (iblk m c 0 t) (iblk0_const m c t)); iexact H0
    isplitl [H1]; · iapply (own_out c (st0_1 t) (iblk m c 1 t) (iblk1_const m c t)); iexact H1
    isplitl [H2]; · iapply (own_out c (st0_2 t) (iblk m c 2 t) (iblk2_at m c t)); iexact H2
    isplitl [H3]; · iapply (own_out c (st0_3 t) (iblk m c 3 t) (iblk3_at m c t)); iexact H3
    iapply (five_leave m c t); iexact H4

/-! ## The launch -/

/-- The body's own semaphore cells. -/
def osem : Fin 6 → SemLoc sig := fun
  | 0 => SemLoc.dma (wS 0).sem
  | 1 => SemLoc.dma (wS 1).sem
  | 2 => SemLoc.dma (rS 0).sem
  | 3 => SemLoc.dma (rS 1).sem
  | 4 => SemLoc.dma (zS 0).sem
  | 5 => SemLoc.dma (zS 1).sem
theorem ownSemFacts : Pipeline.OwnSemFacts spec0 osem := by decide
theorem ownSems0_eq (c : Dev nD) : (Pipeline.ownSems0 (Ix := Unit) (Name := ℕ) (U := UU nD τ) (Lvl := ℕ) (Val := Elt F) (τ := τ) osem c : sProp 𝕄)
    = iprop(cellP c (wS 0) ∗ cellP c (wS 1) ∗ cellP c (rS 0) ∗ cellP c (rS 1) ∗ cellP c (zS 0) ∗ cellP c (zS 1)) := by
  rw [Pipeline.ownSems0_eq_of_list c osem [0, 1, 2, 3, 4, 5] (by decide) (by decide)]
  rfl

/-- The two results' buffers that no window stages, and their contents after the run. -/
abbrev RR : Finset (Ref sig .tc) := {main_v0_1, main_v0_2}
def Yend (c : Dev nD) : (b : Ref sig .tc) → Buf (Elt F) ((c : Thread nD τ).loc b) :=
  Function.update (Function.update (V m c) main_v0_1 (ins m c).ZO) main_v0_2 (ins m c).Q
theorem Yend_zo (c : Dev nD) : Yend m c main_v0_1 = (ins m c).ZO := by
  unfold Yend; rw [Function.update_of_ne (by decide), Function.update_self]
theorem Yend_u8 (c : Dev nD) : Yend m c main_v0_2 = (ins m c).Q := by
  unfold Yend; rw [Function.update_self]
theorem routed_eq (c : Dev nD) (W : (b : Ref sig .tc) → Buf (Elt F) ((c : Thread nD τ).loc b)) :
    (Pipeline.routed RR c W : sProp 𝕄) = iprop(CZ c 0 4000000 (W main_v0_1) ∗ C8 c 0 4000000 (W main_v0_2)) := by
  have e8 : cols 0 4000000 = Finset.univ := by
    ext x; rw [mem_cols]; have : (x 1).val < 4000000 := (x 1).isLt
    simp only [Finset.mem_univ, iff_true]; omega
  have ez : ents 0 4000000 = Finset.univ := by
    ext x; rw [mem_ents]; have : (x 0).val < 4000000 := (x 0).isLt
    simp only [Finset.mem_univ, iff_true]; omega
  unfold Pipeline.routed RR CZ C8
  rw [e8, ez, bigSep_insert (by decide), bigSep_singleton]
  rfl

theorem whole_any (c : Dev nD) (b : Ref sig .tc) (hs : (Memref.whole b).view.set = Finset.univ) :
    (iprop(∃ f : Buf (Elt F) ((c : Thread nD τ).loc b), ((c : Thread nD τ).loc b) ↦{fullShare} f) : sProp 𝕄) = any c (Memref.whole b) := by
  unfold any hP; rw [hs]

theorem split2 (c : Dev nD) (b : Ref sig .tc) (S : Fin 2 → Finset (Idx ((c : Thread nD τ).loc b))) (hd : ∀ s s', s ≠ s' → Disjoint (S s) (S s'))
    (hc : Finset.univ.biUnion S = Finset.univ) :
    (iprop(∃ f : Buf (Elt F) ((c : Thread nD τ).loc b), ((c : Thread nD τ).loc b) ↦{fullShare} f) : sProp 𝕄)
      ⊢ iprop((∃ f : Buf (Elt F) ((c : Thread nD τ).loc b), ((c : Thread nD τ).loc b) ↦[S 0]{fullShare} f) ∗ ∃ f : Buf (Elt F) ((c : Thread nD τ).loc b), ((c : Thread nD τ).loc b) ↦[S 1]{fullShare} f) := by
  iintro ⟨%f, H⟩
  ihave H2 := (Entails.of_eq ((Ring.pointsTo_blocks (Ix := Unit) (Name := ℕ) (U := UU nD τ) (Lvl := ℕ) (q := fullShare) (ℓ := (c : Thread nD τ).loc b) S hd hc f).trans (Ring.bigSep_fin2 _))) $$ H
  icases H2 with ⟨H0, H1⟩
  isplitl [H0]
  · iexists f; iexact H0
  · iexists f; iexact H1
theorem join2 (c : Dev nD) (b : Ref sig .tc) (S : Fin 2 → Finset (Idx ((c : Thread nD τ).loc b))) (hd : ∀ s s', s ≠ s' → Disjoint (S s) (S s'))
    (hc : Finset.univ.biUnion S = Finset.univ) :
    iprop((∃ f : Buf (Elt F) ((c : Thread nD τ).loc b), ((c : Thread nD τ).loc b) ↦[S 0]{fullShare} f) ∗ ∃ f : Buf (Elt F) ((c : Thread nD τ).loc b), ((c : Thread nD τ).loc b) ↦[S 1]{fullShare} f)
      ⊢ (iprop(∃ f : Buf (Elt F) ((c : Thread nD τ).loc b), ((c : Thread nD τ).loc b) ↦{fullShare} f) : sProp 𝕄) := by
  iintro ⟨⟨%f0, H0⟩, H1⟩
  iapply (Ring.pointsTo_blocks_join_exists (ℓ := (c : Thread nD τ).loc b) S hd hc f0)
  irw [Ring.bigSep_fin2]
  isplitl [H0]
  · iexists f0; iexact H0
  · iexact H1

/-- A ring's slots, from the ring's buffer and back. -/
theorem uq_split (c : Dev nD) : (iprop(∃ f : Buf (Elt F) ((c : Thread nD τ).loc cc0_scratch3), ((c : Thread nD τ).loc cc0_scratch3) ↦{fullShare} f) : sProp 𝕄)
    ⊢ iprop(any c (uqs 0) ∗ any c (uqs 1)) := by
  refine (split2 c cc0_scratch3 UQ UQ_disjoint UQ_cover).trans (Entails.of_eq ?_)
  unfold any hP; rw [uqs_set, uqs_set]; rfl
theorem rq_split (c : Dev nD) : (iprop(∃ f : Buf (Elt F) ((c : Thread nD τ).loc cc0_scratch4), ((c : Thread nD τ).loc cc0_scratch4) ↦{fullShare} f) : sProp 𝕄)
    ⊢ iprop(any c (rqs 0) ∗ any c (rqs 1)) := by
  refine (split2 c cc0_scratch4 RQ RQ_disjoint RQ_cover).trans (Entails.of_eq ?_)
  unfold any hP; rw [rqs_set, rqs_set]; rfl
theorem zs_split (c : Dev nD) : (iprop(∃ f : Buf (Elt F) ((c : Thread nD τ).loc cc0_scratch5), ((c : Thread nD τ).loc cc0_scratch5) ↦{fullShare} f) : sProp 𝕄)
    ⊢ iprop(any c (zos 0) ∗ any c (zos 1)) := by
  refine (split2 c cc0_scratch5 ZS ZS_disjoint ZS_cover).trans (Entails.of_eq ?_)
  unfold any hP; rw [zos_set, zos_set]; rfl
theorem uq_join (c : Dev nD) : iprop(any c (uqs 0) ∗ any c (uqs 1))
    ⊢ (iprop(∃ f : Buf (Elt F) ((c : Thread nD τ).loc cc0_scratch3), ((c : Thread nD τ).loc cc0_scratch3) ↦{fullShare} f) : sProp 𝕄) := by
  refine (Entails.of_eq ?_).trans (join2 c cc0_scratch3 UQ UQ_disjoint UQ_cover)
  unfold any hP; rw [uqs_set, uqs_set]; rfl
theorem rq_join (c : Dev nD) : iprop(any c (rqs 0) ∗ any c (rqs 1))
    ⊢ (iprop(∃ f : Buf (Elt F) ((c : Thread nD τ).loc cc0_scratch4), ((c : Thread nD τ).loc cc0_scratch4) ↦{fullShare} f) : sProp 𝕄) := by
  refine (Entails.of_eq ?_).trans (join2 c cc0_scratch4 RQ RQ_disjoint RQ_cover)
  unfold any hP; rw [rqs_set, rqs_set]; rfl
theorem zs_join (c : Dev nD) : iprop(any c (zos 0) ∗ any c (zos 1))
    ⊢ (iprop(∃ f : Buf (Elt F) ((c : Thread nD τ).loc cc0_scratch5), ((c : Thread nD τ).loc cc0_scratch5) ↦{fullShare} f) : sProp 𝕄) := by
  refine (Entails.of_eq ?_).trans (join2 c cc0_scratch5 ZS ZS_disjoint ZS_cover)
  unfold any hP; rw [zos_set, zos_set]; rfl

theorem start (c : Dev nD) : (Pipeline.Ends spec0 osem RR c (V m c) : sProp 𝕄) ⊢ Φat c (ins m c) 0 := by
  rw [Φat_0]
  unfold Pipeline.Ends Φ0 still
  rw [routed_eq, ownSems0_eq, scopedRest0_eq]
  iintro ⟨⟨HZ, H8⟩, ⟨Hw0, Hw1, Hr0, Hr1, Hz0, Hz1⟩, ⟨Ha, Hc, Hh, Hu, Hr, Hz⟩, HP⟩
  ihave Ha := (Entails.of_eq (whole_any c cc0_scratch0 (View.set_whole _))) $$ Ha
  ihave Hc := (Entails.of_eq (whole_any c cc0_scratch1 (View.set_whole _))) $$ Hc
  ihave Hh := (Entails.of_eq (whole_any c cc0_scratch2 (View.set_whole _))) $$ Hh
  ihave Hu := (uq_split c) $$ Hu
  icases Hu with ⟨Hu0, Hu1⟩
  ihave Hr := (rq_split c) $$ Hr
  icases Hr with ⟨Hq0, Hq1⟩
  ihave Hz := (zs_split c) $$ Hz
  icases Hz with ⟨Ho0, Ho1⟩
  isplitl [Ha]; · iexact Ha
  isplitl [Hc]; · iexact Hc
  isplitl [Hu0 Hw0]
  · isplitl [Hu0]; · iexact Hu0
    iexact Hw0
  isplitl [Hu1 Hw1]
  · isplitl [Hu1]; · iexact Hu1
    iexact Hw1
  isplitl [H8]; · iexact H8
  isplitl [Hq0 Hr0]
  · isplitl [Hq0]; · iexact Hq0
    iexact Hr0
  isplitl [Hh]; · iexact Hh
  isplitl [Hq1 Hr1]
  · isplitl [Hq1]; · iexact Hq1
    iexact Hr1
  isplitl [Ho0 Hz0]
  · isplitl [Ho0]; · iexact Ho0
    iexact Hz0
  isplitl [Ho1 Hz1]
  · isplitl [Ho1]; · iexact Ho1
    iexact Hz1
  isplitl [HZ]; · iexact HZ
  iexact HP

theorem finish (c : Dev nD) : (Φat c (ins m c) 75 : sProp 𝕄) ⊢ Pipeline.Ends spec0 osem RR c (Yend m c) := by
  rw [Φat_E]
  unfold Pipeline.Ends ΦE done
  rw [routed_eq, ownSems0_eq, scopedRest0_eq, Yend_zo, Yend_u8]
  iintro ⟨Hh, ⟨Hq0, Hr0⟩, ⟨Hq1, Hr1⟩, ⟨Ho0, Hz0⟩, ⟨Ho1, Hz1⟩, H8, HZ, Ha, Hc, ⟨Hu0, Hw0⟩, ⟨Hu1, Hw1⟩, HP⟩
  isplitl [H8 HZ]
  · isplitl [HZ]; · iexact HZ
    iexact H8
  isplitl [Hw0 Hw1 Hr0 Hr1 Hz0 Hz1]
  · isplitl [Hw0]; · iexact Hw0
    isplitl [Hw1]; · iexact Hw1
    isplitl [Hr0]; · iexact Hr0
    isplitl [Hr1]; · iexact Hr1
    isplitl [Hz0]; · iexact Hz0
    iexact Hz1
  isplitr [HP]
  · isplitl [Ha]; · iapply (Entails.of_eq (whole_any c cc0_scratch0 (View.set_whole _)).symm); iexact Ha
    isplitl [Hc]; · iapply (Entails.of_eq (whole_any c cc0_scratch1 (View.set_whole _)).symm); iexact Hc
    isplitl [Hh]; · iapply (Entails.of_eq (whole_any c cc0_scratch2 (View.set_whole _)).symm); iexact Hh
    isplitl [Hu0 Hu1]
    · iapply (uq_join c)
      isplitl [Hu0]; · iexact Hu0
      iexact Hu1
    isplitl [Hq0 Hq1]
    · iapply (rq_join c)
      isplitl [Hq0]; · iexact Hq0
      iexact Hq1
    iapply (zs_join c)
    isplitl [Ho0]; · iexact Ho0
    iexact Ho1
  iexact HP

/-- At the compiled mesh, for any float values, from any memory with zero counters: every weakly fair execution of the
    program terminates; every final state has the two results at the computed contents, the arguments unchanged, every
    semaphore counter at zero. -/
def QC (r : PUnit × MemSt nD τ sig (Elt F)) : Prop :=
  (∀ c : Dev nD, r.2.mem ((c : Thread nD τ).loc main_v0_1) = (ins m c).ZO
    ∧ r.2.mem ((c : Thread nD τ).loc main_v0_0) = (dats m 0 c).arrAt 4 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

theorem rr_sub : RR ⊆ Pipeline.restRefs sig spec0 := by decide

theorem post (r : PUnit × MemSt nD τ sig (Elt F)) (h : Pipeline.RoutedPost cfgs (dats m) 0 RR (V m) (Yend m) r ∧ r.2.sem = fun _ => 0) : QC m r :=
  ⟨fun c => ⟨((h.1 c).2.1 main_v0_1 (by decide)).trans (Yend_zo m c), (h.1 c).1 4,
    ((h.1 c).1 1).trans (((dats m 0 c).arrAt_in 1 rfl _).trans rfl),
    ((h.1 c).1 2).trans (((dats m 0 c).arrAt_in 2 rfl _).trans rfl),
    ((h.1 c).1 3).trans (((dats m 0 c).arrAt_in 3 rfl _).trans rfl),
    ((h.1 c).1 0).trans (((dats m 0 c).arrAt_in 0 rfl _).trans rfl)⟩, h.2⟩

set_option backward.isDefEq.respectTransparency.types false in
theorem run_main : θ_run defs (onTc (τ := τ) (main (F := F))) (s₀ m ρ) (QC m) :=
  Pipeline.θ_run_frame_routed cfgs (dats m) (0 : Fin 1) launch0 ownSemFacts defs₀ 𝒱₀ m ρ main
    (hbody := fun c => (body_obligation m c).loose) (hshare := fun c => (dats m 0 c).share_full fun _ => rfl)
    (howed := fun _ _ => rfl)
    (V := V m) (hmain := Pipeline.hmain_region cfgs 0 defs₀ 𝒱₀ m main fun c => (main_chain c).trans rfl)
    (hA := fun _ _ => rfl) (R := RR) (hR := rr_sub) (Y := Yend m)
    (hin := fun c => start m c) (hout := fun c => finish m c) (Q' := QC m) (hQ' := post m)

end Cert.KernelIdeal.Own
end
-- ==== Proof.V.Recur.lean ====
/-
  The recurrence over the reals: moving the point step by step, or keeping the point and accumulating the inner products.
-/
module

public import Idealize.ShloMosaic.Lib.Pointwise

@[expose] public section

noncomputable section

namespace Cert.Own

open Idealize.ShloMosaic

/-- `tanh` of any extended real is a real. -/
theorem tanh_coe (x : EReal) : ((Ideal.tanh x).toReal : EReal) = Ideal.tanh x := by
  have h : ∃ r : ℝ, Ideal.tanh x = (r : EReal) := by
    induction x using EReal.rec with
    | bot => exact ⟨-1, by show (-1 : EReal) = _; simp⟩
    | coe r => exact ⟨Real.tanh r, rfl⟩
    | top => exact ⟨1, rfl⟩
  obtain ⟨r, hr⟩ := h
  rw [hr, EReal.toReal_coe]

/-- A real multiple distributes over the sum of an extended real and a real. -/
theorem coe_mul_add_coe (a r : ℝ) (x : EReal) : (a : EReal) * (x + r) = a * x + ((a * r : ℝ) : EReal) := by
  induction x using EReal.rec with
  | bot =>
    rcases lt_trichotomy a 0 with h | h | h
    · simp [EReal.coe_mul_bot_of_neg h, -EReal.coe_mul]
    · simp [h]
    · simp [EReal.coe_mul_bot_of_pos h, -EReal.coe_mul]
  | coe y => rw [← EReal.coe_add, ← EReal.coe_mul, ← EReal.coe_mul, ← EReal.coe_add, mul_add]
  | top =>
    rcases lt_trichotomy a 0 with h | h | h
    · simp [EReal.coe_mul_top_of_neg h, -EReal.coe_mul]
    · simp [h]
    · simp [EReal.coe_mul_top_of_pos h, -EReal.coe_mul]

/-- The coercion of a sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Recur
variable {ι : Type} [Fintype ι] (u w : ℕ → ι → ℝ) (base : ℕ → EReal)

/-- The inner product of row `t` of `w` with row `s` of `u`. -/
def gram (t s : ℕ) : ℝ := ∑ i, w t i * u s i
/-- What the first `n` steps add to the inner product of row `t` of `w`. -/
def acc : ℕ → ℕ → ℝ
  | 0, _ => 0
  | n + 1, t => acc n t + gram u w t n * (Ideal.tanh (base n + (acc n n : EReal))).toReal
/-- The activation of step `n`. -/
def hid (n : ℕ) : ℝ := (Ideal.tanh (base n + (acc u w base n n : EReal))).toReal
/-- What the first `n` steps add to entry `i` of the point. -/
def moved : ℕ → ι → ℝ
  | 0, _ => 0
  | n + 1, i => moved n i + u n i * hid u w base n
/-- The determinant's factor of step `n`. -/
def fac (n : ℕ) : EReal := 1 + (1 - (hid u w base n : EReal) * (hid u w base n : EReal)) * (gram u w n n : EReal)
/-- The log-determinant after `n` steps. -/
def ldet : ℕ → EReal
  | 0 => 0
  | n + 1 => ldet n + Ideal.log (max (fac u w base n) (-fac u w base n))

theorem acc_succ (n t : ℕ) : acc u w base (n + 1) t = acc u w base n t + gram u w t n * hid u w base n := rfl

theorem hid_coe (n : ℕ) : (hid u w base n : EReal) = Ideal.tanh (base n + (acc u w base n n : EReal)) := tanh_coe _

theorem sum_moved (t n : ℕ) : ∑ i, w t i * moved u w base n i = acc u w base n t := by
  induction n with
  | zero => simp [moved, acc]
  | succ n ih =>
    rw [acc_succ, ← ih, gram, Finset.sum_mul, ← Finset.sum_add_distrib]
    exact Finset.sum_congr rfl fun i _ => by rw [moved]; ring

theorem moved_eq_sum (n : ℕ) (i : ι) : moved u w base n i = ∑ s ∈ Finset.range n, hid u w base s * u s i := by
  induction n with
  | zero => simp [moved]
  | succ n ih => rw [moved, ih, Finset.sum_range_succ, mul_comm]

/-- The inner product with the moved point. -/
theorem inner_moved (z : ι → EReal) (t n : ℕ) :
    ∑ i, (w t i : EReal) * (z i + (moved u w base n i : EReal)) = (∑ i, (w t i : EReal) * z i) + (acc u w base n t : EReal) := by
  rw [← sum_moved, coe_sum, ← Finset.sum_add_distrib]
  exact Finset.sum_congr rfl fun i _ => coe_mul_add_coe _ _ _

end Recur

/-! ## The arrays as sequences of rows -/

/-- A family of sixteen, continued by `d`. -/
def ext {α : Type} (x : Fin 16 → α) (d : α) (n : ℕ) : α := if h : n < 16 then x ⟨n, h⟩ else d
theorem ext_val {α : Type} (x : Fin 16 → α) (d : α) (t : Fin 16) : ext x d t.val = x t := dif_pos t.isLt

/-- The shapes of a coefficient matrix, the point and the offsets. -/
abbrev ShM : Shape := ⟨2, ![16, 4000000]⟩
abbrev ShV : Shape := ⟨1, ![4000000]⟩
abbrev ShB : Shape := ⟨2, ![16, 1]⟩

/-- The rows of a matrix, as reals. -/
def rows (M : FVec Ideal ShM .f32) : ℕ → Fin 4000000 → ℝ := ext (fun t i => (show EReal from M (ix2 t i)).toReal) 0
/-- The inner product of each row with the point, and the row's offset. -/
def bases (W : FVec Ideal ShM .f32) (z : FVec Ideal ShV .f32) (b : FVec Ideal ShB .f32) : ℕ → EReal :=
  ext (fun t => (∑ i : Fin 4000000, W (ix2 t i) * z (ix1 i)) + b (ix2 t 0)) 0
/-- A matrix with no infinite entry. -/
def Finite (M : FVec Ideal ShM .f32) : Prop := ∀ (t : Fin 16) (i : Fin 4000000), M (ix2 t i) = ((rows M t.val i : ℝ) : EReal)

end Cert.Own
end
-- ==== Proof.V.Pay.lean ====
/-
  The kernel's stretches over the reals, read at an index.
-/
module

public import proofs.«01_k».proof.Proof.KI.Main
public import proofs.«01_k».proof.Proof.V.Recur
public import Idealize.ShloMosaic.Lib.Pointwise.Sums

@[expose] public section

set_option maxRecDepth 16384

noncomputable section

namespace Cert.KernelIdeal.Own

open Idealize.ShloMosaic
open Cert.KernelIdeal Cert.KernelIdeal.Gen Cert.Own

theorem ofBits_64 : Ideal.ofBits .f32 0x42800000#32 = ((64 : ℝ) : EReal) := by
  simp [Ideal.ofBits, Ideal.ieee, -EReal.coe_mul]; norm_num
theorem ofBits_64th : Ideal.ofBits .f32 0x3C800000#32 = ((1 / 64 : ℝ) : EReal) := by
  simp [Ideal.ofBits, Ideal.ieee, -EReal.coe_mul]; norm_num

theorem pay1_at (j : S16x16.Idx) : k0_pay1 (F := Ideal) j = 0 := by
  pointwise [k0_pay1]
theorem pay2_at (j : S16x1.Idx) : k0_pay2 (F := Ideal) j = 0 := by
  pointwise [k0_pay2]
theorem pay9_at (W U : FVec Ideal S16x80000 .f32) (A : FVec Ideal S16x16 .f32) (t s : Fin 16) :
    k0_pay9 W U A (ix2 t s) = A (ix2 t s) + ∑ k : Fin 80000, W (ix2 t k) * U (ix2 s k) := by
  pointwise [k0_pay9]
theorem pay10_at (W : FVec Ideal S16x80000 .f32) (z : FVec Ideal S80000 .f32) (C : FVec Ideal S16x1 .f32) (t : Fin 16) :
    k0_pay10 W z C (ix2 t 0) = C (ix2 t 0) + ∑ k : Fin 80000, W (ix2 t k) * z (ix1 k) := by
  pointwise [k0_pay10]
theorem pay12_at (x y : FVec Ideal S16x1 .f32) (j : S16x1.Idx) : k0_pay12 x y j = x j + y j := rfl
theorem pay11_at (U : FVec Ideal S16x80000 .f32) (t : Fin 16) (k : Fin 80000) : (show EReal from k0_pay11 (F := Ideal) U (ix3 0 t k)) = U (ix2 t k) * ((64 : ℝ) : EReal) := by
  pointwise [k0_pay11]
  rw [ofBits_64]
theorem pay69_at (H : FVec Ideal S1x16 .f32) (X : FVec Ideal S1x16x160000 .fp8e4m3) (Z : FVec Ideal S160000 .f32) (k : Fin 160000) :
    k0_pay69 H X Z (ix1 k) = Z (ix1 k) + (∑ t : Fin 16, H (ix2 0 t) * X (ix3 0 t k)) * ((1 / 64 : ℝ) : EReal) := by
  pointwise [k0_pay69]
  rw [ofBits_64th]

theorem hStep_at (B acc : FVec Ideal S16x1 .f32) (t : Fin 16) : hStep B acc t (ix2 0 0) = Ideal.tanh (B (ix2 t 0) + acc (ix2 t 0)) := by
  pointwise [hStep]
theorem accStep_at (A : FVec Ideal S16x16 .f32) (B acc : FVec Ideal S16x1 .f32) (n t : Fin 16) :
    accStep A B acc n (ix2 t 0) = acc (ix2 t 0) + A (ix2 t n) * hStep B acc n (ix2 0 0) := by
  pointwise [accStep]
theorem ldStep_at (A : FVec Ideal S16x16 .f32) (h ld : FVec Ideal S1x1 .f32) (t : Fin 16) :
    ldStep A h ld t (ix2 0 0) = ld (ix2 0 0) + Ideal.log (max (1 + (1 - h (ix2 0 0) * h (ix2 0 0)) * A (ix2 t t)) (-(1 + (1 - h (ix2 0 0) * h (ix2 0 0)) * A (ix2 t t)))) := by
  pointwise [ldStep]
  rfl
theorem cmp_lane (l t : Fin 16) : IntOp.cmpi .eq (BitVec.ofNat 32 l.val) (BitVec.ofNat 32 t.val) = if l = t then 1#1 else 0#1 := by
  revert l t; decide
theorem rowStep_at (h : FVec Ideal S1x1 .f32) (row : FVec Ideal S1x16 .f32) (t l : Fin 16) :
    rowStep h row t (ix2 0 l) = row (ix2 0 l) + (if l = t then h (ix2 0 0) else 0) := by
  pointwise [rowStep, lane]
  rw [cmp_lane]
  split
  · rfl
  · rfl
theorem pay4_eq (row : FVec Ideal S1x16 .f32) (h : FVec Ideal S1x1 .f32) : k0_pay4 lane row h = rowStep h row 15 := by
  funext j
  pointwise [k0_pay4, rowStep]

/-! ## The recurrence -/

section Recurrence
variable (A : FVec Ideal S16x16 .f32) (B : FVec Ideal S16x1 .f32) {ι : Type} [Fintype ι] (u w : ℕ → ι → ℝ) (base : ℕ → EReal)
  (hA : ∀ t s : Fin 16, A (ix2 t s) = ((gram u w t.val s.val : ℝ) : EReal)) (hB : ∀ t : Fin 16, B (ix2 t 0) = base t.val)
include hA hB

theorem accAt_at (n : ℕ) (hn : n ≤ 16) (t : Fin 16) : accAt A B n hn (ix2 t 0) = ((acc u w base n t.val : ℝ) : EReal) := by
  induction n generalizing t with
  | zero => exact Ideal.ofBits_zero_f32
  | succ n ih =>
    have h : hStep B (accAt A B n (Nat.le_of_succ_le hn)) ⟨n, hn⟩ (ix2 0 0) = ((hid u w base n : ℝ) : EReal) := by
      rw [hStep_at, hB, ih, hid_coe]
    refine (accStep_at A B _ ⟨n, hn⟩ t).trans ?_
    rw [h, ih, hA, acc_succ, EReal.coe_add, EReal.coe_mul]
theorem hAt_at (t : Fin 16) : hAt A B t (ix2 0 0) = ((hid u w base t.val : ℝ) : EReal) := by
  rw [hAt, hStep_at, hB, accAt_at A B u w base hA hB, hid_coe]
theorem ldAt_at (n : ℕ) (hn : n ≤ 16) : ldAt A B n hn (ix2 0 0) = ldet u w base n := by
  induction n with
  | zero => exact Ideal.ofBits_zero_f32
  | succ n ih =>
    refine (ldStep_at A _ _ ⟨n, hn⟩).trans ?_
    rw [ih, hAt_at A B u w base hA hB, hA]
    rfl
theorem rowAt_at (n : ℕ) (hn : n ≤ 16) (l : Fin 16) : rowAt A B n hn (ix2 0 l) = if l.val < n then ((hid u w base l.val : ℝ) : EReal) else 0 := by
  induction n with
  | zero => exact Ideal.ofBits_zero_f32
  | succ n ih =>
    refine (rowStep_at _ _ ⟨n, hn⟩ l).trans ?_
    rw [ih, hAt_at A B u w base hA hB]
    rcases lt_trichotomy l.val n with h | h | h
    · rw [if_pos h, if_neg (fun e => by subst e; exact absurd h (lt_irrefl _)), if_pos (by omega), add_zero]
    · obtain rfl : l = ⟨n, hn⟩ := Fin.ext h
      rw [if_neg (by simp), if_pos rfl, if_pos (by simp), zero_add]
    · rw [if_neg (by omega), if_neg (fun e => by subst e; exact absurd h (lt_irrefl _)), if_neg (by omega), add_zero]
theorem hRow_at (l : Fin 16) : hRow A B (ix2 0 l) = ((hid u w base l.val : ℝ) : EReal) := by
  refine (congrFun (pay4_eq _ _) _).trans ?_
  exact (rowAt_at A B u w base hA hB 16 (by decide) l).trans (if_pos l.isLt)

end Recurrence

/-! ## The sums over the blocks -/

section Sums
variable (I : Ins Ideal)

theorem accA_at (n : ℕ) (t s : Fin 16) : I.accA n (ix2 t s) = ∑ b ∈ Finset.range n, ∑ k : Fin 80000, I.W b (ix2 t k) * I.U b (ix2 s k) := by
  induction n with
  | zero => exact pay1_at _
  | succ n ih => rw [Finset.sum_range_succ, ← ih]; exact pay9_at _ _ _ t s
theorem accC_at (n : ℕ) (t : Fin 16) : I.accC n (ix2 t 0) = ∑ b ∈ Finset.range n, ∑ k : Fin 80000, I.W b (ix2 t k) * zs50 I.Z (bk b) (ix1 k) := by
  induction n with
  | zero => exact pay2_at _
  | succ n ih => rw [Finset.sum_range_succ, ← ih]; exact pay10_at _ _ _ t

end Sums

end Cert.KernelIdeal.Own
end
-- ==== Proof.V.Ker.lean ====
/-
  The kernel's two results over the reals, from blocks that are the arguments' columns.
-/
module

public import proofs.«01_k».proof.Proof.V.Pay

@[expose] public section

set_option maxRecDepth 16384

noncomputable section

namespace Cert.KernelIdeal.Own

open Idealize.ShloMosaic
open Cert.KernelIdeal Cert.KernelIdeal.Gen Cert.Own

/-! ## Reads through a leading unit axis, and of blocks of the vector -/

theorem sq80_at {α : Type} (P : S1x16x80000.Idx → α) (t : Fin 16) (k : Fin 80000) : sq80 P (ix2 t k) = P (ix3 0 t k) := by
  have e : sq80 P = shapeCast S16x80000 P (Shape.Squeezes.numel_eq squeezes_S1x16x80000_S16x80000) := rfl
  rw [e]
  pointwise
theorem un160_at {α : Type} (X : S16x160000.Idx → α) (t : Fin 16) (l : Fin 160000) : un160 X (ix3 0 t l) = X (ix2 t l) := by
  have e : un160 X = shapeCast S1x16x160000 X (Shape.Squeezes.numel_eq squeezes_S1x16x160000_S16x160000).symm := rfl
  rw [e]
  pointwise

/-- Column `k` of block `b` of 80000, and entry `l` of block `j` of 160000. -/
def col (b : Fin 50) (k : Fin 80000) : Fin 4000000 := ⟨b.val * 80000 + k.val, by omega⟩
def ent (j : Fin 25) (l : Fin 160000) : Fin 4000000 := ⟨j.val * 160000 + l.val, by omega⟩

theorem zs50_at {α : Type} (Z : S4000000.Idx → α) (b : Fin 50) (k : Fin 80000) : zs50 Z b (ix1 k) = Z (ix1 (col b k)) := by
  refine congrArg Z (funext fun a : Fin 1 => Fin.ext ?_)
  fin_cases a
  show 80000 * b.val + 1 * k.val = b.val * 80000 + k.val
  omega
theorem zs25_at {α : Type} (Z : S4000000.Idx → α) (j : Fin 25) (l : Fin 160000) : zs25 Z j (ix1 l) = Z (ix1 (ent j l)) := by
  refine congrArg Z (funext fun a : Fin 1 => Fin.ext ?_)
  fin_cases a
  show 160000 * j.val + 1 * l.val = j.val * 160000 + l.val
  omega
theorem sum_cols {M : Type} [AddCommMonoid M] (f : Fin 4000000 → M) : ∑ i, f i = ∑ b : Fin 50, ∑ k : Fin 80000, f (col b k) :=
  Fin.sum_univ_tiles 50 80000 rfl f

/-! ## The results -/

section Res
variable (I : Ins Ideal) (z : FVec Ideal ShV .f32) (u w : FVec Ideal ShM .f32) (b : FVec Ideal ShB .f32)
  (hZ : I.Z = z) (hB : I.B = b)
  (hU : ∀ (n : Fin 50) (t : Fin 16) (k : Fin 80000), I.U n.val (ix2 t k) = u (ix2 t (col n k)))
  (hW : ∀ (n : Fin 50) (t : Fin 16) (k : Fin 80000), I.W n.val (ix2 t k) = w (ix2 t (col n k)))
  (fu : Finite u) (fw : Finite w)

include hU hW fu fw in
theorem total_gram (t s : Fin 16) : I.accA 50 (ix2 t s) = ((gram (rows u) (rows w) t.val s.val : ℝ) : EReal) := by
  rw [accA_at, Finset.sum_range, gram, coe_sum, sum_cols]
  refine Finset.sum_congr rfl fun n _ => Finset.sum_congr rfl fun k _ => ?_
  rw [hU, hW, fu, fw, EReal.coe_mul]

include hZ hB hW in
theorem total_base (t : Fin 16) : k0_pay12 (I.accC 50) I.B (ix2 t 0) = bases w z b t.val := by
  rw [pay12_at, accC_at, Finset.sum_range, bases, ext_val, sum_cols, hB, hZ]
  refine congrArg (· + b (ix2 t 0)) ?_
  refine Finset.sum_congr rfl fun n _ => Finset.sum_congr rfl fun k _ => ?_
  rw [hW, show bk n.val = n from Fin.ext (bkv n.isLt), zs50_at]

include hZ hB hU hW fu fw in
theorem res_ld : I.LD (ix2 0 0) = ldet (rows u) (rows w) (bases w z b) 16 :=
  ldAt_at _ _ _ _ _ (total_gram I u w hU hW fu fw) (total_base I z w b hZ hB hW) 16 _

include hZ hB hU hW fu fw in
theorem res_h (t : Fin 16) : I.H (ix2 0 t) = ((hid (rows u) (rows w) (bases w z b) t.val : ℝ) : EReal) :=
  hRow_at _ _ _ _ _ (total_gram I u w hU hW fu fw) (total_base I z w b hZ hB hW) t

include hU in
theorem quant_at (t : Fin 16) (j : Fin 25) (l : Fin 160000) :
    (show EReal from un160 (I.X j) (ix3 0 t l)) = u (ix2 t (ent j l)) * ((64 : ℝ) : EReal) := by
  have hn : (ent j l).val / 80000 < 50 := by have := (ent j l).isLt; omega
  have hk : (ent j l).val % 80000 < 80000 := Nat.mod_lt _ (by decide)
  have e : (u8r j).view.emb (ix2 t l) = ix2 t (ent j l) := by
    refine funext fun a : Fin 2 => Fin.ext ?_
    fin_cases a
    · show 0 + 1 * t.val = t.val
      omega
    · show 160000 * j.val + 1 * l.val = j.val * 160000 + l.val
      omega
  have q : I.Q (ix2 t (ent j l)) = I.Qb ((ent j l).val / 80000) (ix2 t ⟨(ent j l).val % 80000, hk⟩) :=
    I.Q_at _ _ _ (by show t.val = 0 + 1 * t.val; omega) (by show (ent j l).val = 80000 * ((ent j l).val / 80000) + 1 * ((ent j l).val % 80000); omega)
  have r : I.X j (ix2 t l) = I.Q (ix2 t (ent j l)) := congrArg I.Q e
  have s : col ⟨(ent j l).val / 80000, hn⟩ ⟨(ent j l).val % 80000, hk⟩ = ent j l := Fin.ext (by
    show (ent j l).val / 80000 * 80000 + (ent j l).val % 80000 = _
    omega)
  refine (un160_at (I.X j) t l).trans (r.trans (q.trans ((sq80_at _ t _).trans ((pay11_at _ t _).trans ?_))))
  exact congrArg (· * ((64 : ℝ) : EReal)) ((hU ⟨_, hn⟩ t ⟨_, hk⟩).trans (congrArg (fun i => u (ix2 t i)) s))

theorem scaled (h a : Fin 16 → ℝ) :
    (∑ t, (h t : EReal) * ((a t : EReal) * ((64 : ℝ) : EReal))) * ((1 / 64 : ℝ) : EReal) = ((∑ t, h t * a t : ℝ) : EReal) := by
  simp only [← EReal.coe_mul]
  rw [← coe_sum, ← EReal.coe_mul, Finset.sum_mul]
  exact congrArg _ (Finset.sum_congr rfl fun t _ => by ring)

include hZ hB hU hW fu fw in
theorem res_z (i : Fin 4000000) : I.ZO (ix1 i) = z (ix1 i) + ((moved (rows u) (rows w) (bases w z b) 16 i : ℝ) : EReal) := by
  have hj : i.val / 160000 < 25 := by have := i.isLt; omega
  have hl : i.val % 160000 < 160000 := Nat.mod_lt _ (by decide)
  have s : ent ⟨i.val / 160000, hj⟩ ⟨i.val % 160000, hl⟩ = i := Fin.ext (by
    show i.val / 160000 * 160000 + i.val % 160000 = _
    omega)
  refine (I.ZO_at (ix1 i) ⟨_, hj⟩ (ix1 ⟨_, hl⟩) (by show i.val = 160000 * (i.val / 160000) + 1 * (i.val % 160000); omega)).trans ?_
  refine (pay69_at _ _ _ _).trans ?_
  rw [zs25_at, s, hZ, moved_eq_sum, Finset.sum_range, ← scaled]
  refine congrArg (fun x => z (ix1 i) + x * ((1 / 64 : ℝ) : EReal)) (Finset.sum_congr rfl fun t _ => ?_)
  refine Ideal.mul_congr (res_h I z u w b hZ hB hU hW fu fw t) ?_
  refine (quant_at I u hU t _ _).trans ?_
  rw [s, fu]

end Res

end Cert.KernelIdeal.Own
end
-- ==== Proof.V.Blk.lean ====
/-
  The windows' blocks as columns of the arguments, and the array the log-determinant's window leaves.
-/
module

public import proofs.«01_k».proof.Proof.V.Ker
public import Idealize.ShloMosaic.Lib.Pipeline.ValueKit

@[expose] public section

set_option maxRecDepth 16384

noncomputable section

namespace Cert.KernelIdeal.Own

open Idealize.ShloMosaic Idealize.ShloMosaic.TcCoe
open Cert.KernelIdeal Cert.KernelIdeal.Gen Cert.Own
open Idealize.ShloMosaic.Pipeline (Dat)

theorem idx : ∀ t : Fin cfg0.N, win0_0.index t = ![0, 0] ∧ win0_1.index t = ![0] ∧ win0_2.index t = ![0, min t.val 49]
    ∧ win0_3.index t = ![0, min t.val 49] ∧ win0_4.index t = ![0, 0] :=
  (by decide +kernel : ∀ t : Fin grid0.N, _)

variable (m : (ℓ : Loc nD τ sig) → Buf (Elt Ideal) ℓ) (c : Dev nD)

theorem blk_u (t : Fin cfg0.N) (n : Fin 50) (e : t.val = n.val) (r : Fin 16) (k : Fin 80000) :
    (iblk m c 2 t : S16x80000.Idx → EReal) (ix2 r k) = (m ((c : Thread nD τ).loc main_arg1) : ShM.Idx → EReal) (ix2 r (col n k)) := by
  have h := n.isLt
  have hv : (col n k).val = n.val * 80000 + k.val := rfl
  blk_ext [iblk, V, idx t]
theorem blk_w (t : Fin cfg0.N) (n : Fin 50) (e : t.val = n.val) (r : Fin 16) (k : Fin 80000) :
    (iblk m c 3 t : S16x80000.Idx → EReal) (ix2 r k) = (m ((c : Thread nD τ).loc main_arg2) : ShM.Idx → EReal) (ix2 r (col n k)) := by
  have h := n.isLt
  have hv : (col n k).val = n.val * 80000 + k.val := rfl
  blk_ext [iblk, V, idx t]
theorem blk_z (t : Fin cfg0.N) : iblk m c 1 t = m ((c : Thread nD τ).loc main_arg0) := by
  blk_ext! [iblk, V, idx t]
theorem blk_b (t : Fin cfg0.N) : iblk m c 0 t = m ((c : Thread nD τ).loc main_arg3) := by
  blk_ext! [iblk, V, idx t]

theorem one_idx (x y : S1x1.Idx) : x = y := funext fun a : Fin 2 => by
  fin_cases a <;> exact Subsingleton.elim (α := Fin 1) _ _
/-- The log-determinant's array after the run is what its buffer holds. -/
theorem arr_ld (j : S1x1.Idx) : ((dats m 0 c).arrAt 4 cfg0.N : S1x1.Idx → EReal) j = (ins m c).LD j := by
  refine congrFun ((dats m 0 c).arrAt_eq_of_covers 4 (ins m c).LD (by decide +kernel) fun t _ y => ?_) j
  rw [after_w4]
  blk_simp
  exact congrArg (ins m c).LD (one_idx _ _)

end Cert.KernelIdeal.Own
end
-- ==== Proof.V.Ref.lean ====
/-
  One trip of the reference's loop, read at an index.
-/
module

public import proofs.«01_k».proof.Proof.Gen.ReferenceIdeal.StepRun
public import proofs.«01_k».proof.Proof.V.Recur

@[expose] public section

set_option maxRecDepth 16384

noncomputable section

namespace Cert.ReferenceIdeal.Own

open Idealize.ShloMosaic
open Cert.ReferenceIdeal Cert.ReferenceIdeal.Gen Cert.ReferenceIdeal.Step Cert.Own

theorem word_row (t : Fin 16) : (BitVec.ofNat 32 t.val).toInt = t.val := by revert t; decide

/-- The index at which trip `t` slices an array of sixteen rows. -/
def at_ (t : Fin 16) : Fin 2 → Int := fun k => BitVec.toInt ((![constantI S_ 32 (BitVec.ofNat 32 t.val), constantI S_ 32 0#32] : Fin 2 → IVec S_ 32) k (Shape.Idx.first h_S_))
theorem at_0 (t : Fin 16) : at_ t 0 = t.val := word_row t
theorem at_1 (t : Fin 16) : at_ t 1 = 0 := rfl

theorem row_start (t : Fin 16) : Host.clampedStart S16x4000000 S1x4000000 sliceFits_S16x4000000_S1x4000000.1 (at_ t) 0 = t.val :=
  Host.clampedStart_of_le (s := S16x4000000) (t := S1x4000000) sliceFits_S16x4000000_S1x4000000.1 (at_ t) 0 t.val (at_0 t) (by show t.val + 1 ≤ 16; omega)
theorem col_start (t : Fin 16) : Host.clampedStart S16x4000000 S1x4000000 sliceFits_S16x4000000_S1x4000000.1 (at_ t) 1 = 0 :=
  Host.clampedStart_of_le (s := S16x4000000) (t := S1x4000000) sliceFits_S16x4000000_S1x4000000.1 (at_ t) 1 0 (at_1 t) (by show 0 + 4000000 ≤ 4000000; omega)
theorem row_start' (t : Fin 16) : Host.clampedStart S16x1 S1x1 sliceFits_S16x1_S1x1.1 (at_ t) 0 = t.val :=
  Host.clampedStart_of_le (s := S16x1) (t := S1x1) sliceFits_S16x1_S1x1.1 (at_ t) 0 t.val (at_0 t) (by show t.val + 1 ≤ 16; omega)
theorem col_start' (t : Fin 16) : Host.clampedStart S16x1 S1x1 sliceFits_S16x1_S1x1.1 (at_ t) 1 = 0 :=
  Host.clampedStart_of_le (s := S16x1) (t := S1x1) sliceFits_S16x1_S1x1.1 (at_ t) 1 0 (at_1 t) (by show 0 + 1 ≤ 1; omega)

/-- A row sliced out of sixteen. -/
theorem slice_at (t : Fin 16) (x : FVec Ideal S16x4000000 .f32) (i : Fin 4000000) :
    shapeCast S4000000 (Host.dynamicSlice S1x4000000 x (at_ t) sliceFits_S16x4000000_S1x4000000) shapeCasts_S1x4000000_S4000000 (ix1 i) = x (ix2 t i) := by
  pointwise
  exact congrArg x ((ix2_inj ..).2 ⟨Fin.ext (row_start t), Fin.ext ((congrArg (· + i.val) (col_start t)).trans (Nat.zero_add _))⟩)
theorem slice_at' (t : Fin 16) (x : FVec Ideal S16x1 .f32) (i : S1.Idx) :
    shapeCast S1 (Host.dynamicSlice S1x1 x (at_ t) sliceFits_S16x1_S1x1) shapeCasts_S1x1_S1 i = x (ix2 t 0) := by
  pointwise
  exact congrArg x ((ix2_inj ..).2 ⟨Fin.ext (row_start' t), Fin.ext (col_start' t)⟩)

theorem b2_at (t : Fin 16) (s : State Ideal) (i : Fin 4000000) : b2 t.val s (ix1 i) = s.main_v0_0 (ix2 t i) := slice_at t s.main_v0_0 i
theorem b5_at (t : Fin 16) (s : State Ideal) (i : Fin 4000000) : b5 t.val s (ix1 i) = s.main_v0_1 (ix2 t i) := slice_at t s.main_v0_1 i
theorem b8_at (t : Fin 16) (s : State Ideal) (i : S1.Idx) : b8 t.val s i = s.main_v0_2 (ix2 t 0) := slice_at' t s.main_v0_2 i

theorem b11_at (t : ℕ) (s : State Ideal) (j : S_.Idx) : b11 t s j = ∑ i : Fin 4000000, b5 t s (ix1 i) * s.main_v0_4 (ix1 i) := by
  pointwise [b11, b9, b10]

theorem b23_at (t : ℕ) (s : State Ideal) (j : S_.Idx) : b23 t s j = ∑ i : Fin 4000000, b2 t s (ix1 i) * b5 t s (ix1 i) := by
  pointwise [b23, b21, b22]

theorem b12_at (t : ℕ) (s : State Ideal) (j : S_.Idx) : b12 t s j = b8 t s (ix1 0) := by
  pointwise [b12]

theorem tanh_add (x y : FVec Ideal S_ .f32) (j : S_.Idx) : Host.tanh (addf x y) j = Ideal.tanh (x j + y j) := rfl
theorem abs_at (x : FVec Ideal S_ .f32) (j : S_.Idx) : Host.absf x j = max (x j) (-x j) := rfl
theorem add_log (x y : FVec Ideal S_ .f32) (j : S_.Idx) : addf x (Host.log y) j = x j + Ideal.log (y j) := rfl
theorem factor_at (x y : FVec Ideal S_ .f32) (j : S_.Idx) :
    addf (constant S_ .f32 0x3F800000#32) (mulf (subf (constant S_ .f32 0x3F800000#32) (mulf x x)) y) j = 1 + (1 - x j * x j) * y j := by
  pointwise

theorem b14_eq (t : ℕ) (s : State Ideal) : b14 t s = Host.tanh (addf (b11 t s) (b12 t s)) := rfl
theorem b27_eq (t : ℕ) (s : State Ideal) : b27 t s = Host.absf (b26 t s) := rfl
theorem b29_eq (t : ℕ) (s : State Ideal) : b29 t s = addf s.main_v0_5 (Host.log (b27 t s)) := rfl
theorem b26_eq (t : ℕ) (s : State Ideal) : b26 t s = addf (constant S_ .f32 0x3F800000#32) (mulf (subf (constant S_ .f32 0x3F800000#32) (mulf (b14 t s) (b14 t s))) (b23 t s)) := rfl

theorem b17_at (t : ℕ) (s : State Ideal) (i : Fin 4000000) : b17 t s (ix1 i) = s.main_v0_4 (ix1 i) + b2 t s (ix1 i) * b14 t s ix0 := by
  pointwise [b17, b16, b15]

/-! ## The trips in order -/

section Trips
variable (z : FVec Ideal S4000000 .f32) (u w : FVec Ideal S16x4000000 .f32) (b : FVec Ideal S16x1 .f32)

/-- The state after `n` trips. -/
def its : ℕ → State Ideal
  | 0 => init z u w b
  | n + 1 => step n (its n)

theorem its_u (n : ℕ) : (its z u w b n).main_v0_0 = u := by
  induction n with
  | zero => rfl
  | succ n ih => exact ih
theorem its_w (n : ℕ) : (its z u w b n).main_v0_1 = w := by
  induction n with
  | zero => rfl
  | succ n ih => exact ih
theorem its_b (n : ℕ) : (its z u w b n).main_v0_2 = b := by
  induction n with
  | zero => rfl
  | succ n ih => exact ih

variable (hu : Finite u) (hw : Finite w)
include hu hw

/-- One trip's activation, from the point before it. -/
theorem hid_trip (t : Fin 16) (hz : ∀ i : Fin 4000000, (its z u w b t.val).main_v0_4 (ix1 i) = z (ix1 i) + ((moved (rows u) (rows w) (bases w z b) t.val i : ℝ) : EReal))
    (j : S_.Idx) : b14 t.val (its z u w b t.val) j = ((hid (rows u) (rows w) (bases w z b) t.val : ℝ) : EReal) := by
  rw [hid_coe]
  refine ((congrFun (b14_eq _ _) j).trans (tanh_add _ _ j)).trans (congrArg Ideal.tanh ?_)
  have h11 : b11 t.val (its z u w b t.val) j = (∑ i : Fin 4000000, ((rows w t.val i : ℝ) : EReal) * z (ix1 i)) + ((acc (rows u) (rows w) (bases w z b) t.val t.val : ℝ) : EReal) := by
    refine (b11_at _ _ j).trans (Eq.trans ?_ (inner_moved (rows u) (rows w) (bases w z b) (fun i => z (ix1 i)) t.val t.val))
    refine Finset.sum_congr rfl fun i _ => Ideal.mul_congr ?_ (hz i)
    exact (b5_at t _ i).trans ((congrFun (its_w z u w b t.val) (ix2 t i)).trans (hw t i))
  refine (Ideal.add_congr h11 ((b12_at _ _ j).trans ((b8_at t _ _).trans (congrFun (its_b z u w b t.val) (ix2 t 0))))).trans ?_
  rw [bases, ext_val, add_right_comm]
  exact Ideal.add_congr (Ideal.add_congr (Finset.sum_congr rfl fun i _ => Ideal.mul_congr (hw t i).symm rfl) rfl) rfl

theorem gram_trip (t : Fin 16) (j : S_.Idx) : b23 t.val (its z u w b t.val) j = ((gram (rows u) (rows w) t.val t.val : ℝ) : EReal) := by
  rw [gram, coe_sum]
  refine (b23_at _ _ j).trans (Finset.sum_congr rfl fun i _ => ?_)
  rw [EReal.coe_mul, mul_comm]
  exact Ideal.mul_congr ((b5_at t _ i).trans ((congrFun (its_w z u w b t.val) (ix2 t i)).trans (hw t i)))
    ((b2_at t _ i).trans ((congrFun (its_u z u w b t.val) (ix2 t i)).trans (hu t i)))

/-- The point and the log-determinant after `n` trips. -/
theorem its_at (n : ℕ) (hn : n ≤ 16) :
    (∀ i : Fin 4000000, (its z u w b n).main_v0_4 (ix1 i) = z (ix1 i) + ((moved (rows u) (rows w) (bases w z b) n i : ℝ) : EReal))
      ∧ ∀ j : S_.Idx, (its z u w b n).main_v0_5 j = ldet (rows u) (rows w) (bases w z b) n := by
  induction n with
  | zero =>
    refine ⟨fun i => ?_, fun j => ?_⟩
    · show z (ix1 i) = z (ix1 i) + ((0 : ℝ) : EReal)
      rw [EReal.coe_zero, add_zero]
    · show K_main_cst (F := Ideal) j = 0
      pointwise [K_main_cst]
  | succ n ih =>
    obtain ⟨hz, hl⟩ := ih (by omega)
    have hh := hid_trip z u w b hu hw ⟨n, by omega⟩ hz
    have hg := gram_trip z u w b hu hw ⟨n, by omega⟩
    refine ⟨fun i => ?_, fun j => ?_⟩
    · refine (congrFun (step_main_v0_4 n (its z u w b n)) (ix1 i)).trans ((b17_at n _ i).trans ?_)
      rw [moved, EReal.coe_add, ← add_assoc, EReal.coe_mul]
      refine Ideal.add_congr (hz i) (Ideal.mul_congr ?_ (hh ix0))
      exact (b2_at ⟨n, by omega⟩ _ i).trans ((congrFun (its_u z u w b n) (ix2 ⟨n, by omega⟩ i)).trans (hu ⟨n, by omega⟩ i))
    · refine (congrFun (step_main_v0_5 n (its z u w b n)) j).trans (((congrFun (b29_eq n _) j).trans (add_log _ _ j)).trans ?_)
      refine Ideal.add_congr (hl j) (congrArg Ideal.log ?_)
      have hf : b26 n (its z u w b n) j = fac (rows u) (rows w) (bases w z b) n := by
        refine ((congrFun (b26_eq n _) j).trans (factor_at _ _ j)).trans ?_
        rw [hh j, hg j]; rfl
      refine ((congrFun (b27_eq n _) j).trans (abs_at _ j)).trans ?_
      rw [hf]

end Trips

end Cert.ReferenceIdeal.Own
end
-- ==== Proof.V.Same.lean ====
/-
  The kernel's results and the reference's, from the same arguments.
-/
module

public import proofs.«01_k».proof.Proof.V.Blk
public import proofs.«01_k».proof.Proof.V.Ref

@[expose] public section

set_option maxRecDepth 16384

noncomputable section

namespace Cert.Own

open Idealize.ShloMosaic Idealize.ShloMosaic.TcCoe
open Cert.KernelIdeal.Own

variable (m : (ℓ : Loc Cert.KernelIdeal.nD Cert.KernelIdeal.τ Cert.KernelIdeal.sig) → Buf (Elt Ideal) ℓ) (c : Dev Cert.KernelIdeal.nD)

/-- The kernel's arguments on device `c`. -/
abbrev argZ : FVec Ideal ShV .f32 := m ((c : Thread Cert.KernelIdeal.nD Cert.KernelIdeal.τ).loc Cert.KernelIdeal.main_arg0)
abbrev argU : FVec Ideal ShM .f32 := m ((c : Thread Cert.KernelIdeal.nD Cert.KernelIdeal.τ).loc Cert.KernelIdeal.main_arg1)
abbrev argW : FVec Ideal ShM .f32 := m ((c : Thread Cert.KernelIdeal.nD Cert.KernelIdeal.τ).loc Cert.KernelIdeal.main_arg2)
abbrev argB : FVec Ideal ShB .f32 := m ((c : Thread Cert.KernelIdeal.nD Cert.KernelIdeal.τ).loc Cert.KernelIdeal.main_arg3)

/-- The reference's loop from the kernel's arguments. -/
def refIts (n : ℕ) : Cert.ReferenceIdeal.Step.State Ideal := Cert.ReferenceIdeal.Own.its (argZ m c) (argU m c) (argW m c) (argB m c) n

theorem ins_u (n : Fin 50) (t : Fin 16) (k : Fin 80000) : (ins m c).U n.val (ix2 t k) = argU m c (ix2 t (col n k)) :=
  blk_u m c (tp n.val) n (Nat.mod_eq_of_lt (lt_trans n.isLt (by decide))) t k
theorem ins_w (n : Fin 50) (t : Fin 16) (k : Fin 80000) : (ins m c).W n.val (ix2 t k) = argW m c (ix2 t (col n k)) :=
  blk_w m c (tp n.val) n (Nat.mod_eq_of_lt (lt_trans n.isLt (by decide))) t k

variable (fu : Finite (argU m c)) (fw : Finite (argW m c))
include fu fw

theorem same_z (j : ShV.Idx) : (refIts m c 16).main_v0_4 j = (ins m c).ZO j := by
  obtain ⟨i, rfl⟩ : ∃ i : Fin 4000000, j = ix1 i := ⟨j 0, funext fun a : Fin 1 => by fin_cases a; rfl⟩
  exact ((Cert.ReferenceIdeal.Own.its_at _ _ _ _ fu fw 16 (le_refl _)).1 i).trans
    (res_z (ins m c) (argZ m c) (argU m c) (argW m c) (argB m c) (blk_z m c (tp 0)) (blk_b m c (tp 0)) (ins_u m c) (ins_w m c) fu fw i).symm

theorem same_ld (j : Cert.ReferenceIdeal.S1x1.Idx) :
    Cert.ReferenceIdeal.Step.R_main_v1 (refIts m c 16) j = ((dats m 0 c).arrAt 4 Cert.KernelIdeal.cfg0.N : Cert.KernelIdeal.S1x1.Idx → EReal) j := by
  refine Eq.trans ?_ (arr_ld m c j).symm
  refine ((Cert.ReferenceIdeal.Own.its_at (argZ m c) (argU m c) (argW m c) (argB m c) fu fw 16 (le_refl _)).2 _).trans ?_
  refine (res_ld (ins m c) (argZ m c) (argU m c) (argW m c) (argB m c) (blk_z m c (tp 0)) (blk_b m c (tp 0)) (ins_u m c) (ins_w m c) fu fw).symm.trans ?_
  exact congrArg (ins m c).LD (one_idx _ _)

end Cert.Own
end
-- ==== Proof.V.Pre.lean ====
/-
  The precondition read: every entry of the two coefficient matrices is a real.
-/
module

public import proofs.«01_k».proof.Pre_finite
public import proofs.«01_k».proof.Proof.V.Recur

@[expose] public section

set_option maxRecDepth 16384

noncomputable section

namespace Cert.Own

open Idealize.ShloMosaic

theorem pre_facts : Cert.Pre_finite.Facts := ⟨by decide⟩

theorem ofBits_inf : Ideal.ofBits .f32 0x7F800000#32 = (⊤ : EReal) := by
  simp [Ideal.ofBits, Ideal.ieee, -EReal.coe_mul]

theorem finite_of_abs (x : EReal) (h : max x (-x) < ⊤) : x = (x.toReal : EReal) := by
  induction x using EReal.rec with
  | bot => simp at h
  | coe r => rfl
  | top => simp at h

theorem finite_of_less (M : FVec Ideal ShM .f32) (hb)
    (h : cmpf .olt (Host.absf M) (broadcastInDim ShM ![] hb (constant (⟨0, ![]⟩ : Shape) .f32 0x7F800000#32)) = fun _ => 1#1) : Finite M := by
  intro t i
  have e := congrFun h (ix2 t i)
  rw [rows, ext_val]
  refine finite_of_abs _ ?_
  have e' : Ideal.cmp .olt (max (M (ix2 t i)) (-M (ix2 t i))) (Ideal.ofBits .f32 0x7F800000#32) = 1 := e
  rw [Ideal.cmp_olt_eq_one, ofBits_inf] at e'
  exact e'

end Cert.Own
end
-- ==== Proof.lean ====
/-
  The claims: `Kernel`, `KernelIdeal` and `ReferenceIdeal` run, keep their arguments and end quiescent; `KernelIdeal` is
  `Kernel`'s idealization; from coefficient matrices without infinities `KernelIdeal` and `ReferenceIdeal` end with equal
  results.
-/
module

public import proofs.«01_k».proof.Defs
public import proofs.«01_k».proof.Proof.K.Main
public import proofs.«01_k».proof.Proof.KI.Main
public import proofs.«01_k».proof.Proof.V.Same
public import proofs.«01_k».proof.Proof.V.Pre
public import proofs.«01_k».proof.Proof.Gen.ReferenceIdeal.StepRun
public import Idealize.ShloMosaic.Adequacy
public import Idealize.ShloMosaic.Init

@[expose] public section

noncomputable section

namespace Cert.Proof

open Idealize.ShloMosaic Idealize.ShloMosaic.TcCoe Idealize.SL.Sem
open Cert.Own

/-- `Cert.quiescent_Kernel`: the run keeps the arguments and ends with every counter at zero. -/
theorem frame_k : Cert.quiescent_Kernel := fun m ρ _ =>
  (θ_run Cert.Kernel.defs _ _).mono (fun _ h => ⟨fun c => (h.1 c).2.2, h.2⟩) (Cert.Kernel.Own.run_main (F := Bits) m ρ)

/-- The idealization's run at the extended reals, whatever is asked of the arguments. -/
theorem frame_ki : Cert.quiescent_KernelIdeal := fun m ρ _ =>
  (θ_run Cert.KernelIdeal.defs _ _).mono (fun _ h => ⟨fun c => (h.1 c).2.2, h.2⟩) (Cert.KernelIdeal.Own.run_main (F := Ideal) m ρ)

/-- The reference's run at the extended reals: it declares no semaphore. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The precondition makes both coefficient matrices real. -/
theorem pre_finite (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) : Finite (argU m c) ∧ Finite (argW m c) :=
  ⟨finite_of_less _ pre_facts.bcast_S_S16x4000000 (h c).1, finite_of_less _ pre_facts.bcast_S_S16x4000000 (h c).2⟩

/-- The two programs' results. -/
theorem equal_results : Cert.algebraic_KernelIdeal_ReferenceIdeal_pre_finite (hPre_finite := pre_facts) := fun m ρ m' ρ' hp hm => by
  refine ⟨fun c => (Cert.KernelIdeal.Own.ins m c).ZO, fun c => (Cert.KernelIdeal.Own.dats m 0 c).arrAt 4 Cert.KernelIdeal.cfg0.N, ?_, ?_⟩
  · exact (θ_run Cert.KernelIdeal.defs _ _).mono (fun _ h c => h.1 c) (Cert.KernelIdeal.Own.run_main (F := Ideal) m ρ)
  · refine (θ_run Cert.ReferenceIdeal.defs _ _).mono (fun r h c => ?_)
      (Cert.ReferenceIdeal.StepRun.run_iter (F := Ideal) m' ρ' (refIts m) (fun c => ?_) (fun c n => rfl))
    · have hf := pre_finite m hp c
      exact ⟨(h c).1.trans (funext fun j => same_z m c hf.1 hf.2 j), (h c).2.1.trans (funext fun j => same_ld m c hf.1 hf.2 j), (h c).2.2⟩
    · obtain ⟨h0, h1, h2, h3⟩ := hm c
      unfold Cert.ReferenceIdeal.StepRun.initState
      rw [h0, h1, h2, h3]
      rfl

theorem claim : Cert.Claim :=
  ⟨Cert.Kernel.Gen.facts, Cert.KernelIdeal.Gen.facts, Cert.ReferenceIdeal.Gen.facts, pre_facts,
    frame_k, frame_ki, fun m ρ _ => frame_ki m ρ trivial, frame_ri, fun m ρ _ => frame_ri m ρ trivial, trivial, equal_results⟩

end Cert.Proof

end
